-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200x768 : Shape := ⟨3, ![1024, 200, 768]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x200x768 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 200#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x200x768 : Shape := ⟨3, ![1024, 200, 768]⟩
abbrev S1024 : Shape := ⟨1, ![1024]⟩
abbrev S204800x768 : Shape := ⟨2, ![204800, 768]⟩
abbrev S1024x768 : Shape := ⟨2, ![1024, 768]⟩
abbrev S32 : Shape := ⟨1, ![32]⟩
abbrev S32x768 : Shape := ⟨2, ![32, 768]⟩
abbrev S4 : Shape := ⟨1, ![4]⟩
abbrev S_ : Shape := ⟨0, ![]⟩
abbrev S16 : Shape := ⟨1, ![16]⟩
abbrev S8x128 : Shape := ⟨2, ![8, 128]⟩
abbrev S8 : Shape := ⟨1, ![8]⟩
abbrev S204800x128 : Shape := ⟨2, ![204800, 128]⟩
abbrev S1 : Shape := ⟨1, ![1]⟩
abbrev S8x768 : Shape := ⟨2, ![8, 768]⟩

abbrev nBuf : Table → Nat
  | .hbm => 4
  | .local .scVector .vmem => 2
  | _ => 0

abbrev bufTy : (tb : Table) → Fin (nBuf tb) → BufTy
  | .hbm, ⟨0, _⟩ => ⟨S1024x200x768, .f32⟩
  | .hbm, ⟨1, _⟩ => ⟨S1024, .i32⟩
  | .hbm, ⟨2, _⟩ => ⟨S204800x768, .f32⟩
  | .hbm, ⟨3, _⟩ => ⟨S1024x768, .f32⟩
  | .local .scVector .vmem, ⟨0, _⟩ => ⟨S32, .i32⟩
  | .local .scVector .vmem, ⟨1, _⟩ => ⟨S32x768, .f32⟩
  | _, _ => ⟨S1024x200x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) (c0_i32_174 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v177 : BitVec 32 := Scalar.addi v2 c0_i32_174
  let c0_i32_177 : BitVec 32 := 0#32
  ![v177.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200x768 : Shape := ⟨3, ![1024, 200, 768]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S1024x768 : Shape := ⟨2, ![1024, 768]⟩

abbrev nBuf : Space → Nat
  | .hbm => 21
  | .vmem => 0
  | .smem => 0
  | _ => 0

abbrev bufTy : (tb : Table) → Fin (tcTables nBuf tb) → BufTy
  | .hbm, ⟨0, _⟩ => ⟨S1024x200x768, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x1, .i32⟩
  | .hbm, ⟨19, _⟩ => ⟨S1024x2, .i32⟩
  | .hbm, ⟨20, _⟩ => ⟨S1024x768, .f32⟩
  | _, _ => ⟨S1024x200x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.GatherBatch.lean ====
/-
  Several indirect gathers outstanding on ONE semaphore.

  Each chunk of the kernel's rows is fetched by six indirect gathers, one per block of 128 columns, all signalling the
  same semaphore, and six waits follow. A wait takes one gather's credit, but the semaphore does not say whose rows have
  landed: only once the last of the six has returned is every row known to be there. That is a `Transfers.Batch`
  counted in ROWS: every row of every gather is one transfer of the batch, each pays the same credit, a wait takes a
  gather's worth of rows' credit, and the last wait hands all the rows over. `wp_indirectGatherBatch` is the issue of one
  gather as the next rows of such a batch; the library's `wp_waitBatchMulO` and `wp_waitBatchAllO` are its waits.
-/
module

public import Idealize.ShloMosaic.Lib.Batch
public import Idealize.ShloMosaic.Lib.SparseCore.Stream

@[expose] public section

noncomputable section

namespace Cert.Proof.GatherBatch

open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type}

/-! ## The next rows of a batch -/

/-- Three held together, grouped either way. -/
theorem sep_regroup (A B C : sProp (MT nD τ sig Ix (Elt F) Name U Lvl)) : iprop(A ∗ B ∗ C) = iprop((A ∗ B) ∗ C) :=
  BI.Entails.antisymm (show iprop(A ∗ B ∗ C) ⊢ iprop((A ∗ B) ∗ C) from Laws.sep_assoc.2)
    (show iprop((A ∗ B) ∗ C) ⊢ iprop(A ∗ B ∗ C) from Laws.sep_assoc.1)

/-- What is held of each transfer from the `k`-th on is what is held of the next `o`, and of those from the `k + o`-th on. -/
theorem bigSep_pending_block {n : ℕ} (Φ : Fin n → sProp (MT nD τ sig Ix (Elt F) Name U Lvl)) :
    ∀ (o k : ℕ) (h : k + o ≤ n), bigSep (Transfers.pending k) Φ
      = iprop((bigSep Finset.univ fun j : Fin o => Φ ⟨k + j.val, by omega⟩) ∗ bigSep (Transfers.pending (k + o)) Φ)
  | 0, k, _ => by
    rw [Finset.univ_eq_empty, BI.bigSep_empty, Nat.add_zero]
    exact (BI.Entails.antisymm emp_sep.1 emp_sep.2).symm
  | o + 1, k, h => by
    have hs : bigSep (Transfers.pending (n := n) (k + 1 + o)) Φ = bigSep (Transfers.pending (k + (o + 1))) Φ := by
      rw [show k + 1 + o = k + (o + 1) by omega]
    have e : (fun j : Fin o => Φ ⟨k + 1 + j.val, by omega⟩) = fun j : Fin o => Φ ⟨k + (Fin.succ j).val, by simp; omega⟩ :=
      funext fun j => congrArg Φ (Fin.ext (by simp only [Fin.val_succ]; omega))
    rw [Transfers.bigSep_pending_step Φ k (by omega), bigSep_pending_block Φ o (k + 1) (by omega), bigSep_univ_succ, hs, e]
    exact sep_regroup (Φ ⟨k, by omega⟩) _ _

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The entry of an offset list that names row `j` of the destination: the list's `j`-th word in row-major order. -/
abbrev entry {o : ℕ} (hn : si.numel = o) (j : Fin o) : si.Idx := si.rowMajor.symm (j.cast hn.symm)

/-- What row `j` of a gather leaves: the destination's row written with the source row the list names, the list's
    word that named it, and the share of the source it read. -/
def rowDelivery {src : Memref sig c.2.kind sp s₀ e} {dst : Memref sig c.2.kind .vmem s e} (hg : s₀.Gathers a s)
    {offs : Memref sig c.2.kind .vmem si .i32} (hn : si.numel = s.size hg.axis')
    (q : Fin (s.size hg.axis') → PosShare TreeShare) (qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (entry hn j)}]{qo} fo)) ∗ (src.view.loc c ↦[src.view.set]{q j} fs))

/-- `enqueueIndirectGather` at the head of a program, its rows the NEXT transfers of a batch on its semaphore, `k₀`
    of the batch's transfers issued before it: the tile hands in a share of the source, the destination outright, a
    share of the offset list with every word in range, and the batch; every row of the destination is one transfer,
    paying the batch's `N` (`ham`), and what it leaves is that transfer's delivery (`hD`). It continues with the batch,
    the rows issued. -/
theorem wp_indirectGatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (ham : ∀ j, (dst.slice (s.rowRect hg.axis' j) (s.stride_rowRect hg.axis' j)).view.dmaCredit = N)
    (hs : 0 < s.size hg.axis') (hin : ∀ x, (offs.view.read (Elt F) fo x).toNat < s₀.size hg.axis)
    {n k₀ u : ℕ} {D : Fin n → sProp 𝕄} (hk : k₀ + s.size hg.axis' ≤ n) (hu : u ≤ k₀ * N)
    (hD : ∀ j : Fin (s.size hg.axis'), rowDelivery c hg hn (pieceOf q _ hs) qo fs fd fo (rows (offs.view.read (Elt F) fo) hn hin) j
      ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k₀ u)
      ⊢ iprop((Transfers.Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  -- the stream, the rows it issues at the words held, and the facts about them
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl fun j _ => ham j]; simp
  unfold Transfers.Batch
  iintro ⟨Hs, Hd, Ho, ⟨%γ, %γ₀, %κ, #Hinv, HI, H0, Hcred⟩⟩ Hk
  -- the issue rights of this gather's rows, and of those after it
  ihave HI' := (Entails.of_eq (bigSep_pending_block (F := F) (fun t => (count EC (γ t) 0 : sProp 𝕄)) (s.size hg.axis') k₀ hk)) $$ HI
  icases HI' with ⟨Ht, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs hs q)) $$ Hs
  iapply (wp_enqueueIndirectDma 𝒱 c bd Set.univ (qo := qo) (fo := fo) (rd := rd) ι (s.size hg.axis' * N) hA hrd hsum) $$ [Hd' Ho' Hs' Ht]
  · -- each row: its word's share, and behind it the row's resources
    have hrow : ∀ j : Fin (s.size hg.axis'), iprop(inv κ (Transfers.batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ hs j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ hs j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from ham j]
        iapply (Transfers.batch_creditUpdate EC ⟨k₀ + j.val, by omega⟩ (hD j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Ht]; · isplitl [H2] <;> iassumption
    iapply (Transfers.bigSep_mono_pers Finset.univ _ _ _ fun j _ => hrow j)
    isplitr; · iexact Hinv
    iexact H3
  -- the batch, these rows issued: their credit with the rest's
  iintro Hcred'
  iapply Hk
  iexists γ, γ₀, κ
  isplitr; · iexact Hinv
  isplitl [HI]; · iexact HI
  isplitl [H0]; · iexact H0
  rw [show (k₀ + s.size hg.axis') * N - u = (k₀ * N - u) + s.size hg.axis' * N by rw [Nat.add_mul]; omega, ← tallyAt_add]
  icombine Hcred Hcred' as H
  iexact H

end Cert.Proof.GatherBatch

end
-- ==== Proof.Program.lean ====
/-
  The kernel's task, read as what it is: fetch 32 token indexes and turn them into row numbers of the table
  (`prologue`), start the six gathers of each of four chunks of eight rows (`fetch`), and then, chunk by chunk, wait for
  the six and send the chunk out (`send`), waiting for the four sends at the end (`settle`). The printed program spells
  every window out with its numbers; here chunk `k` and column block `p` are variables, so that each step is proved
  once. `task_eq` says the two are the same program.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.GatherBatch
public import proofs.«01_k».proof.Proof.Gen.KernelIdeal
public import proofs.«01_k».proof.Proof.Gen.KernelIdeal.Skeleton

@[expose] public section

noncomputable section

namespace Cert.Proof.Rows

open Cert.KernelIdeal Cert.KernelIdeal.Gen
open Idealize.ShloMosaic Idealize.SL.Sem

variable {F : FTy → Type} [FloatOps F]

/-! ## The arrays and the scratch buffers, as a task names them -/

abbrev tV : Memref sig .scVector .hbm S204800x768 .f32 := Memref.whole main_v0_scv
abbrev iV : Memref sig .scVector .hbm S1024 .i32 := Memref.whole main_arg1_scv
abbrev oV : Memref sig .scVector .hbm S1024x768 .f32 := Memref.whole main_v1_scv
abbrev sV : Memref sig .scVector .vmem S32 .i32 := Memref.whole cc0_scratch0
abbrev rV : Memref sig .scVector .vmem S32x768 .f32 := Memref.whole cc0_scratch1

/-! ## The windows: chunk `k` of four (eight rows), column block `p` of six (128 columns) -/

/-- A gather's destination is inside the fetched rows. -/
theorem inb_win (k : Fin 4) (p : Fin 6) : ∀ a, (![8 * k.val, 128 * p.val] : Fin 2 → Nat) a + S8x128.size a ≤ S32x768.size a := by
  revert k p; decide
/-- A chunk's row numbers are inside the list. -/
theorem inb_list (k : Fin 4) : ∀ a, (![8 * k.val] : Fin 1 → Nat) a + S8.size a ≤ S32.size a := by revert k; decide
/-- A gather's 128 columns are inside the table. -/
theorem inb_col (p : Fin 6) : ∀ a, (![0, 128 * p.val] : Fin 2 → Nat) a + S204800x128.size a ≤ S204800x768.size a := by revert p; decide
/-- A chunk's semaphore is one of the four. -/
theorem inb_sem (k : Fin 4) : ∀ a, (![k.val] : Fin 1 → Nat) a + S1.size a ≤ S4.size a := by revert k; decide
/-- A chunk is inside the fetched rows. -/
theorem inb_chunk (k : Fin 4) : ∀ a, (![8 * k.val, 0] : Fin 2 → Nat) a + S8x768.size a ≤ S32x768.size a := by revert k; decide

/-- Block `p` of chunk `k` of the row scratch. -/
abbrev win (k : Fin 4) (p : Fin 6) : Memref sig .scVector .vmem S8x128 .f32 :=
  rV.slice (Rect.unit (s := S32x768) ![8 * k.val, 128 * p.val] S8x128.size (inb_win k p)) (fun _ => rfl)
/-- The eight row numbers of chunk `k`. -/
abbrev list (k : Fin 4) : Memref sig .scVector .vmem S8 .i32 :=
  sV.slice (Rect.unit (s := S32) ![8 * k.val] S8.size (inb_list k)) (fun _ => rfl)
/-- Column block `p` of the table. -/
abbrev col (p : Fin 6) : Memref sig .scVector .hbm S204800x128 .f32 :=
  tV.slice (Rect.unit (s := S204800x768) ![0, 128 * p.val] S204800x128.size (inb_col p)) (fun _ => rfl)
/-- Chunk `k` of the row scratch. -/
abbrev chunk (k : Fin 4) : Memref sig .scVector .vmem S8x768 .f32 :=
  rV.slice (Rect.unit (s := S32x768) ![8 * k.val, 0] S8x768.size (inb_chunk k)) (fun _ => rfl)
/-- The task's rows of the result that chunk `k` goes to. -/
abbrev dest (L : grid0.Coords) (k : Fin 4) : Memref sig .scVector .hbm S8x768 .f32 :=
  oV.slice (Rect.unit (s := S1024x768) (k0_off2 L (BitVec.ofNat 32 (8 * k.val))) S8x768.size (k0_off2_inb L k)) (fun _ => rfl)
/-- The task's 32 token indexes. -/
abbrev toks (L : grid0.Coords) : Memref sig .scVector .hbm S32 .i32 :=
  iV.slice (Rect.unit (s := S1024) (k0_off1 L) S32.size (k0_off1_inb L)) (fun _ => rfl)
/-- The semaphore chunk `k`'s gathers signal, and the one the sends do. -/
abbrev gsem (k : Fin 4) : DmaSem sig :=
  ((cc0_scratch2.slice (Rect.unit (s := S4) ![k.val] S1.size (inb_sem k))).squeeze S_ squeezes_S1_S_).sem
abbrev ssem : DmaSem sig := cc0_scratch3.sem

/-! ## The program by its steps -/

abbrev cV (L : grid0.Coords) : Fin τ.nSC := (L 0).castLE hcore0
abbrev jV (L : grid0.Coords) : Fin τ.nSub := (L 1).castLE hsub0

/-- What a task does, returning `α`. -/
abbrev TaskProg (F : FTy → Type) [FloatOps F] (L : grid0.Coords) (α : Type) : Type 1 :=
  Prog (TpuEff nD τ sig (Elt F) Λ₀ (.scVector (cV L) (jV L))) α

/-- Fetch the task's token indexes, and add to each its row's offset in the table, sixteen lanes at a time. -/
def prologue (L : grid0.Coords) : TaskProg F L PUnit := do
  Prog.lift (.enqueueDma (toks L) (.here sV) (.dma cc0_scoped0.sem) (View.wordExact_bits rfl) (Memref.isWhole_whole _).wordExact ⟨Or.inl rfl, trivial⟩)
  Prog.lift (.waitDma2 cc0_scoped0.sem (toks L) sV (View.wordExact_bits rfl) (Memref.isWhole_whole _).wordExact)
  let v5 : Vec F S16 .i32 ← Prog.lift (.load sV (Rect.unit (s := S32) ![0] S16.size inb_S32_S16_0).toLoadRect (View.loadsAt_vmem h_S16))
  let _ : Vec F S16 .i32 ← Prog.lift (.load sV (Rect.unit (s := S32) ![0] S16.size inb_S32_S16_0).toLoadRect (View.loadsAt_vmem h_S16))
  Prog.lift (.store sV (Rect.unit (s := S32) ![0] S16.size inb_S32_S16_0) (k0_pay1 L v5) Finset.univ (View.stores_vmem_bits_univ h_S16 rfl) (.inl rfl))
  let v17 : Vec F S16 .i32 ← Prog.lift (.load sV (Rect.unit (s := S32) ![16] S16.size inb_S32_S16_16).toLoadRect (View.loadsAt_vmem h_S16))
  let _ : Vec F S16 .i32 ← Prog.lift (.load sV (Rect.unit (s := S32) ![16] S16.size inb_S32_S16_16).toLoadRect (View.loadsAt_vmem h_S16))
  Prog.lift (.store sV (Rect.unit (s := S32) ![16] S16.size inb_S32_S16_16) (k0_pay2 L v17) Finset.univ (View.stores_vmem_bits_univ h_S16 rfl) (.inl rfl))

/-- Start the gather of block `p` of chunk `k`. -/
def gather (L : grid0.Coords) (k : Fin 4) (p : Fin 6) : TaskProg F L PUnit :=
  SparseCore.enqueueIndirectGather rfl (col p) (win k p) gathers_S204800x128_S8x128 (list k) rfl (gsem k) (View.wordExact_bits rfl) rfl (Or.inl rfl)

/-- Wait for one gather's credit on chunk `k`'s semaphore. -/
def await (L : grid0.Coords) (k : Fin 4) (p : Fin 6) : TaskProg F L PUnit :=
  SparseCore.waitIndirectGather (gsem k) (col p) (win k p) (View.wordExact_bits rfl) (View.wordExact_bits rfl)

/-- Start chunk `k`'s six gathers. -/
def fetch (L : grid0.Coords) (k : Fin 4) : TaskProg F L PUnit := do
  gather L k 0; gather L k 1; gather L k 2; gather L k 3; gather L k 4; gather L k 5

/-- Wait for chunk `k`'s six gathers and start sending the chunk out. -/
def send (L : grid0.Coords) (k : Fin 4) : TaskProg F L PUnit := do
  await L k 0; await L k 1; await L k 2; await L k 3; await L k 4; await L k 5
  Prog.lift (.enqueueDma (chunk k) (.here (dest L k)) (.dma ssem) (View.wordExact_bits rfl) (View.wordExact_bits rfl) ⟨Or.inl rfl, trivial⟩)

/-- Wait for one send's credit. -/
def settle (L : grid0.Coords) (k : Fin 4) : TaskProg F L PUnit :=
  Prog.lift (.waitDma2 ssem (chunk k) (dest L k) (View.wordExact_bits rfl) (View.wordExact_bits rfl))

/-- The whole task. -/
def task (L : grid0.Coords) : TaskProg F L PUnit := do
  prologue L
  fetch L 0; fetch L 1; fetch L 2; fetch L 3
  send L 0; send L 1; send L 2; send L 3
  settle L 0; settle L 1; settle L 2; settle L 3

set_option maxRecDepth 65536 in
/-- The printed kernel is the task. -/
theorem task_eq (L : grid0.Coords) :
    cc0_k (F := F) L tV (Memref.isWhole_whole _) iV (Memref.isWhole_whole _) oV (Memref.isWhole_whole _) sV (Memref.isWhole_whole _)
      rV (Memref.isWhole_whole _) cc0_scratch2 cc0_scratch3 cc0_scoped0 = task L := by
  rw [cc0_k_eq_skeleton]; unfold cc0_k_skel
  rw [k0_part12_eq_skeleton]; unfold k0_part12_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  rfl

end Cert.Proof.Rows

end
-- ==== Proof.Steps.lean ====
/-
  The task's steps, one by one: what each start and each wait takes and leaves. Chunk and column block are variables
  throughout, so each kind of step is proved once.
-/
module

public import proofs.«01_k».proof.Proof.Program

@[expose] public section

noncomputable section

namespace Cert.Proof.Rows

open Cert.KernelIdeal Cert.KernelIdeal.Gen
open Cert.Proof.GatherBatch
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: one handshake library beside the counters the batches are counted with -/

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb
abbrev 𝒱₀ : Variants := Variants.none
/-- No handshake of the launch's: what a task's own transfers are recorded under. -/
abbrev ι₀ : HIx 1 := default

/-- The task's thread: tile `L 1` of SparseCore `L 0` on device `d`. -/
abbrev thr (d : Dev nD) (L : grid0.Coords) : Thread nD τ := V d (cV L) (jV L)

/-! ## Indexes, and what the scratch comes to hold -/

/-- The index `a` of a one-axis array, and `(a, b)` of a two-axis one. -/
def at1 {n : ℕ} (a : Fin n) : (⟨1, ![n]⟩ : Shape).Idx := fun | 0 => a
def at2 {n m : ℕ} (a : Fin n) (b : Fin m) : (⟨2, ![n, m]⟩ : Shape).Idx := fun | 0 => a | 1 => b

/-- The table's row a number names. -/
def rowAt (w : BitVec 32) : Fin 204800 := ⟨w.toNat % 204800, Nat.mod_lt _ (by decide)⟩

/-- The rows of `t` that the list `n` names, one under the other: what the row scratch holds after the gathers. -/
def gathered (t : S204800x768.Idx → Elt F .f32) (n : S32.Idx → BitVec 32) : S32x768.Idx → Elt F .f32 :=
  fun x => t (at2 (rowAt (n (at1 (x 0)))) (x 1))

/-! ## The gathers -/

/-- One row's credit, and one chunk's. -/
abbrev rowCredit : ℕ := ((win 0 0).slice (S8x128.rowRect gathers_S204800x128_S8x128.axis' (0 : Fin 8)) (S8x128.stride_rowRect _ _)).view.dmaCredit
abbrev chunkCredit : ℕ := (chunk 0).view.dmaCredit

/-- Each of the six gathers of a chunk holds a sixth of the chunk's row numbers. -/
abbrev sixth (p : Fin 6) : PosShare TreeShare := pieceOf fullShare 6 (by decide) p

variable (d : Dev nD) (L : grid0.Coords)

/-- Row `j` of block `p` of chunk `k`, landed, with the sixth of the row number that named it. -/
def landedRow (g : S32x768.Idx → Elt F .f32) (n : S32.Idx → BitVec 32) (k : Fin 4) (p : Fin 6) (j : Fin 8) : sProp 𝕄 :=
  iprop(((win k p).view.loc (thr d L) ↦[((win k p).view.slice (S8x128.rowRect gathers_S204800x128_S8x128.axis' j)).set]{fullShare} g)
    ∗ ((list k).view.loc (thr d L) ↦[{(list k).view.emb (entry (si := S8) (o := 8) rfl j)}]{sixth p} n))

/-- The 48 rows of chunk `k`, in the order they are asked for. -/
def landed (g : S32x768.Idx → Elt F .f32) (n : S32.Idx → BitVec 32) (k : Fin 4) (t : Fin (6 * 8)) : sProp 𝕄 :=
  landedRow d L g n k (finProdFinEquiv.symm t).1 (finProdFinEquiv.symm t).2

instance landed_storable (g : S32x768.Idx → Elt F .f32) (n : S32.Idx → BitVec 32) (k : Fin 4) (t : Fin (6 * 8)) :
    BI.Storable (upEmb : UEmb _ 𝕄) (landed d L g n k t) := by
  unfold landed landedRow; infer_instance

/-- The gathers of chunk `k` in flight: `a` rows asked for, `u` units of credit waited for. -/
abbrev Fetching (g : S32x768.Idx → Elt F .f32) (n : S32.Idx → BitVec 32) (k : Fin 4) (a u : ℕ) : sProp 𝕄 :=
  Transfers.Batch EC (thr d L) (.dma (gsem k)) ι₀ rowCredit (landed d L g n k) a u

omit [FloatOps F] in
/-- Where a window's element sits in the scratch: eight rows a chunk, 128 columns a block. -/
theorem win_row_emb (k : Fin 4) (p : Fin 6) (j : Fin 8) (x : (S8x128.rowShape gathers_S204800x128_S8x128.axis').Idx) :
    ((((win k p).view.slice (S8x128.rowRect gathers_S204800x128_S8x128.axis' j)).emb x : S32x768.Idx) 0).val = 8 * k.val + j.val
    ∧ ((((win k p).view.slice (S8x128.rowRect gathers_S204800x128_S8x128.axis' j)).emb x : S32x768.Idx) 1).val
        = 128 * p.val + (x (1 : Fin 2)).val := by
  have hx : (x (0 : Fin 2)).val = 0 := by have h := (x (0 : Fin 2)).isLt; change (x (0 : Fin 2)).val < 1 at h; omega
  constructor
  · show 8 * k.val + 1 * (j.val + 1 * (x (0 : Fin 2)).val) = _; omega
  · show 128 * p.val + 1 * (0 + 1 * (x (1 : Fin 2)).val) = _; omega

omit [FloatOps F] in
/-- The word that names row `j` of chunk `k` is the list's word `8 k + j`. -/
theorem list_entry_emb (k : Fin 4) (j : Fin 8) :
    ((((list k).view.emb (entry (si := S8) (o := 8) rfl j)) : S32.Idx) 0).val = 8 * k.val + j.val := by
  have h : ((entry (si := S8) (o := 8) rfl j) 0).val = j.val := by revert j; decide
  show 8 * k.val + 1 * ((entry (si := S8) (o := 8) rfl j) 0).val = _
  rw [h]; omega

/-- A gather leaves, row by row, the rows of the table the list names. -/
theorem row_lands {t : S204800x768.Idx → Elt F .f32} {n : S32.Idx → BitVec 32} {fr : S32x768.Idx → Elt F .f32} (k : Fin 4) (p : Fin 6)
    (q : Fin 8 → PosShare TreeShare)
    (hin : ∀ x, ((list k).view.read (Elt F) n x).toNat < S204800x128.size gathers_S204800x128_S8x128.axis) (j : Fin 8) :
    (rowDelivery (F := F) (Ix := HIx 1) (Name := ℕ) (U := UU) (Lvl := ℕ) (thr d L) (src := col p) (dst := win k p) (offs := list k) gathers_S204800x128_S8x128 rfl q (sixth p) t fr n
        (rows ((list k).view.read (Elt F) n) rfl hin) j)
      ⊢ landed d L (gathered t n) n k ⟨8 * p.val + j.val, by omega⟩ := by
  have ht : (⟨8 * p.val + j.val, by omega⟩ : Fin (6 * 8)) = finProdFinEquiv (p, j) := Fin.ext (by simp [finProdFinEquiv]; omega)
  rw [ht]; unfold landed; rw [Equiv.symm_apply_apply]; unfold landedRow rowDelivery
  iintro ⟨⟨Hr, He⟩, -⟩
  isplitl [Hr]
  · iapply (Entails.of_eq (pointsTo_congr ?_)) $$ Hr
    intro i hi
    obtain ⟨x, -, rfl⟩ := Finset.mem_map.1 hi
    rw [View.write_emb_of_mem _ _ (Finset.mem_univ _)]
    obtain ⟨h0, h1⟩ := win_row_emb k p j x
    have hl : (list k).view.emb (entry (si := S8) (o := 8) rfl j)
        = at1 ((((win k p).view.slice (S8x128.rowRect gathers_S204800x128_S8x128.axis' j)).emb x : S32x768.Idx) 0) := by
      funext a; match a with
      | 0 => exact Fin.ext ((list_entry_emb k j).trans h0.symm)
    have hr : (rows ((list k).view.read (Elt F) n) rfl hin j).val
        = (n (at1 ((((win k p).view.slice (S8x128.rowRect gathers_S204800x128_S8x128.axis' j)).emb x : S32x768.Idx) 0))).toNat :=
      congrArg (fun y => (n y).toNat) hl
    have hlt : (rows ((list k).view.read (Elt F) n) rfl hin j).val < 204800 := (rows ((list k).view.read (Elt F) n) rfl hin j).isLt
    refine congrArg t (funext fun b => Fin.ext ?_)
    match b with
    | 0 =>
      show 0 + 1 * (rows ((list k).view.read (Elt F) n) rfl hin j).val = _ % 204800
      rw [← hr, Nat.mod_eq_of_lt hlt]; omega
    | 1 =>
      refine Eq.trans ?_ h1.symm
      show 128 * p.val + 1 * (x (1 : Fin 2)).val = _
      omega
  · iexact He

/-- What is held of a memref's elements, outright. -/
abbrev held {sp : Space} {s : Shape} {e : EltTy} (v : Memref sig .scVector sp s e) (f : Buf (Elt F) (v.view.loc (thr d L))) : sProp 𝕄 :=
  v.view.loc (thr d L) ↦[v.view.set]{fullShare} f

variable {α : Type} {Q : α → sProp (MT nD τ sig (HIx 1) (Elt F) ℕ UU ℕ)}

/-- Start one gather: the chunk's next eight rows are asked for. -/
theorem gather_step (k : Fin 4) (p : Fin 6) {q : PosShare TreeShare} (t : S204800x768.Idx → Elt F .f32) (n : S32.Idx → BitVec 32)
    (fr : S32x768.Idx → Elt F .f32) (hn : ∀ x, (n x).toNat < 204800) {a b : ℕ} (ha : 8 * p.val = a) (hb : a + 8 = b)
    (kk : PUnit → TaskProg F L α) :
    iprop(((col p).view.loc (thr d L) ↦[(col p).view.set]{q} t) ∗ held d L (win k p) fr
        ∗ ((list k).view.loc (thr d L) ↦[(list k).view.set]{sixth p} n) ∗ Fetching d L (gathered t n) n k a 0)
      ⊢ iprop((Fetching d L (gathered t n) n k b 0 -∗ wp frame (wpE (defs₀ (F := F)) 𝒱₀ (thr d L) none) Set.univ (kk ⟨⟩) Q)
          -∗ wp frame (wpE (defs₀ (F := F)) 𝒱₀ (thr d L) none) Set.univ (gather L k p >>= kk) Q) := by
  subst hb ha
  have hin : ∀ x, ((list k).view.read (Elt F) n x).toNat < S204800x128.size gathers_S204800x128_S8x128.axis := fun x => hn _
  exact wp_indirectGatherBatch EC 𝒱₀ (thr d L) none ι₀ rowCredit (fun _ => rfl) (by decide) hin (n := 6 * 8)
    (show 8 * p.val + 8 ≤ 6 * 8 by omega) (Nat.zero_le _) (fun j => row_lands d L k p _ _ j)

/-- What the thread owes, nothing further recorded against it than its own transfers' waits. -/
def Owed (O : CellTallies nD τ sig (HIx 1)) (W : Waits sig (HIx 1)) : sProp 𝕄 :=
  iprop(∃ W', ⌜∀ p ∈ W', p ∈ W ∨ p.2 = none⌝ ∗ owes (thr d L) O W')

/-- Wait for one gather's credit. -/
theorem await_step (k : Fin 4) (p : Fin 6) (g : S32x768.Idx → Elt F .f32) (n : S32.Idx → BitVec 32) {u v : ℕ} (hu : 8 * p.val * rowCredit = u)
    (hv : 8 * (p.val + 1) * rowCredit = v) {O : CellTallies nD τ sig (HIx 1)} {W : Waits sig (HIx 1)} (kk : PUnit → TaskProg F L α) :
    iprop(Fetching d L g n k 48 u ∗ Owed d L O W ∗ Transfers.MayWaits (thr d L) ι₀ O)
      ⊢ iprop((iprop(Fetching d L g n k 48 v ∗ Owed d L O W) -∗ wp frame (wpE (defs₀ (F := F)) 𝒱₀ (thr d L) none) Set.univ (kk ⟨⟩) Q)
          -∗ wp frame (wpE (defs₀ (F := F)) 𝒱₀ (thr d L) none) Set.univ (await L k p >>= kk) Q) := by
  unfold Owed
  iintro ⟨HB, ⟨%W', %hW, HO⟩, Hmw⟩ Hk
  iapply (Transfers.wp_waitBatchMulO EC 𝒱₀ (thr d L) none (dstw := win k p) ι₀ 8 (show (win k p).view.dmaCredit = 8 * rowCredit by
      show (win 0 0).view.dmaCredit = _; decide)
    (show u + 8 * rowCredit ≤ rowCredit * 48 by
      subst hu; rw [← Nat.add_mul, Nat.mul_comm rowCredit]; exact Nat.mul_le_mul_right _ (by omega))) $$ [HB HO Hmw]
  · isplitl [HB]; · iexact HB
    isplitl [HO]; · iexact HO
    iapply (Transfers.MayWaits.elim (SemLoc.dma (gsem k))) $$ Hmw
  iintro ⟨HB, HO⟩
  iapply Hk
  isplitl [HB]
  · rw [show v = u + 8 * rowCredit by subst hu hv; rw [Nat.mul_add, Nat.add_mul]]; iexact HB
  iexists _; isplitr
  swap; · iexact HO
  ipureintro; intro x hx
  rcases Finset.mem_insert.mp hx with hx | hx
  · exact .inr (hx ▸ rfl)
  · exact hW x hx

/-! ## A chunk and its windows -/

/-- The elements of a window, of a chunk, and of a chunk's part of the list, in their buffers. -/
abbrev winSet (k : Fin 4) (p : Fin 6) : Finset S32x768.Idx := (win k p).view.set
abbrev chunkSet (k : Fin 4) : Finset S32x768.Idx := (chunk k).view.set
abbrev listSet (k : Fin 4) : Finset S32.Idx := (list k).view.set

omit [FloatOps F] in
/-- Which entries of the fetched rows gather `p` of chunk `k` writes. -/
theorem mem_win (k : Fin 4) (p : Fin 6) (i : S32x768.Idx) : i ∈ winSet k p
    ↔ (8 * k.val ≤ (i 0).val ∧ (i 0).val < 8 * k.val + 8) ∧ (128 * p.val ≤ (i 1).val ∧ (i 1).val < 128 * p.val + 128) := by
  rw [show winSet k p = (Rect.unit (s := S32x768) ![8 * k.val, 128 * p.val] S8x128.size (inb_win k p)).set from View.set_slice_whole _ _,
    Rect.mem_set_unit, Fin.forall_fin_two]
  exact Iff.rfl
omit [FloatOps F] in
/-- Which entries chunk `k` is. -/
theorem mem_chunk (k : Fin 4) (i : S32x768.Idx) : i ∈ chunkSet k ↔ 8 * k.val ≤ (i 0).val ∧ (i 0).val < 8 * k.val + 8 := by
  rw [show chunkSet k = (Rect.unit (s := S32x768) ![8 * k.val, 0] S8x768.size (inb_chunk k)).set from View.set_slice_whole _ _,
    Rect.mem_set_unit, Fin.forall_fin_two]
  exact ⟨fun h => h.1, fun h => ⟨h, Nat.zero_le _, (i 1).isLt⟩⟩
omit [FloatOps F] in
/-- Which row numbers chunk `k` uses. -/
theorem mem_list (k : Fin 4) (i : S32.Idx) : i ∈ listSet k ↔ 8 * k.val ≤ (i 0).val ∧ (i 0).val < 8 * k.val + 8 := by
  rw [show listSet k = (Rect.unit (s := S32) ![8 * k.val] S8.size (inb_list k)).set from View.set_slice_whole _ _,
    Rect.mem_set_unit, Fin.forall_fin_one]
  exact Iff.rfl

omit [FloatOps F] in
/-- Two gathers of one chunk write apart. -/
theorem disjoint_wins (k : Fin 4) {p p' : Fin 6} (h : p ≠ p') :
    Disjoint (winSet k p) (winSet k p') :=
  Finset.disjoint_left.2 fun i hi hi' => by
    have h1 := ((mem_win k p i).1 hi).2
    have h2 := ((mem_win k p' i).1 hi').2
    exact h (Fin.ext (by omega))
omit [FloatOps F] in
/-- Two chunks are apart. -/
theorem disjoint_chunks {k k' : Fin 4} (h : k ≠ k') :
    Disjoint (chunkSet k) (chunkSet k') :=
  Finset.disjoint_left.2 fun i hi hi' => by
    have h1 := (mem_chunk k i).1 hi
    have h2 := (mem_chunk k' i).1 hi'
    exact h (Fin.ext (by omega))
omit [FloatOps F] in
/-- Two chunks' row numbers are apart. -/
theorem disjoint_lists {k k' : Fin 4} (h : k ≠ k') :
    Disjoint (listSet k) (listSet k') :=
  Finset.disjoint_left.2 fun i hi hi' => by
    have h1 := (mem_list k i).1 hi
    have h2 := (mem_list k' i).1 hi'
    exact h (Fin.ext (by omega))

omit [FloatOps F] in
/-- A chunk is its six gathers' destinations. -/
theorem chunk_cover (k : Fin 4) : ((Finset.univ : Finset (Fin 6)).biUnion fun p => winSet k p)
    = chunkSet k := by
  ext i
  rw [Finset.mem_biUnion]
  refine Iff.trans ⟨fun ⟨p, _, hp⟩ => ((mem_win k p i).1 hp).1, fun h => ?_⟩ (mem_chunk k i).symm
  have hi : (i 1).val < 768 := (i 1).isLt
  exact ⟨⟨(i 1).val / 128, by omega⟩, Finset.mem_univ _, (mem_win k _ i).2 ⟨h, by show 128 * ((i 1).val / 128) ≤ _; omega, by
    show _ < 128 * ((i 1).val / 128) + 128; omega⟩⟩
omit [FloatOps F] in
/-- The four chunks are all the fetched rows. -/
theorem rows_cover : ((Finset.univ : Finset (Fin 4)).biUnion fun k => chunkSet k) = Finset.univ := by
  ext i
  rw [Finset.mem_biUnion]
  have hi : (i 0).val < 32 := (i 0).isLt
  exact ⟨fun _ => Finset.mem_univ _, fun _ => ⟨⟨(i 0).val / 8, by omega⟩, Finset.mem_univ _, (mem_chunk _ i).2 ⟨by
    show 8 * ((i 0).val / 8) ≤ _; omega, by show _ < 8 * ((i 0).val / 8) + 8; omega⟩⟩⟩
omit [FloatOps F] in
/-- The four chunks' row numbers are all of them. -/
theorem list_cover : ((Finset.univ : Finset (Fin 4)).biUnion fun k => listSet k) = Finset.univ := by
  ext i
  rw [Finset.mem_biUnion]
  have hi : (i 0).val < 32 := (i 0).isLt
  exact ⟨fun _ => Finset.mem_univ _, fun _ => ⟨⟨(i 0).val / 8, by omega⟩, Finset.mem_univ _, (mem_list _ i).2 ⟨by
    show 8 * ((i 0).val / 8) ≤ _; omega, by show _ < 8 * ((i 0).val / 8) + 8; omega⟩⟩⟩

/-- The row scratch and the list's buffer, as locations. -/
abbrev rLoc : Loc nD τ sig := rV.view.loc (thr d L)
abbrev sLoc : Loc nD τ sig := sV.view.loc (thr d L)

omit [FloatOps F] in
/-- A chunk held is its six windows held. -/
theorem chunk_wins (k : Fin 4) (f : S32x768.Idx → Elt F .f32) :
    held d L (chunk k) f = bigSep Finset.univ fun p : Fin 6 => held d L (win k p) f := by
  have h := pointsTo_biUnion (Ix := HIx 1) (Name := ℕ) (U := UU) (Lvl := ℕ) (ℓ := rLoc d L) (q := fullShare) (f := f) Finset.univ
    (fun p : Fin 6 => winSet k p) fun p _ p' _ h => disjoint_wins k h
  rw [chunk_cover] at h; exact h

omit [FloatOps F] in
/-- The row scratch held is its four chunks held. -/
theorem rows_chunks (f : S32x768.Idx → Elt F .f32) :
    (rLoc d L ↦{fullShare} f : sProp 𝕄) = bigSep Finset.univ fun k : Fin 4 => held d L (chunk k) f := by
  have h := pointsTo_biUnion (Ix := HIx 1) (Name := ℕ) (U := UU) (Lvl := ℕ) (ℓ := rLoc d L) (q := fullShare) (f := f) Finset.univ
    chunkSet fun p _ p' _ h => disjoint_chunks h
  rw [rows_cover] at h; exact h

omit [FloatOps F] in
/-- The list held is its four chunks' parts held. -/
theorem list_parts (n : S32.Idx → BitVec 32) :
    (sLoc d L ↦{fullShare} n : sProp 𝕄) = bigSep Finset.univ fun k : Fin 4 => held (F := F) d L (list k) n := by
  have h := pointsTo_biUnion (Val := Elt F) (Ix := HIx 1) (Name := ℕ) (U := UU) (Lvl := ℕ) (ℓ := sLoc d L) (q := fullShare) (f := n) Finset.univ
    listSet fun p _ p' _ h => disjoint_lists h
  rw [list_cover] at h; exact h

omit [FloatOps F] in
/-- A chunk's part of the list held is a sixth of it held for each of the chunk's gathers. -/
theorem list_sixths (k : Fin 4) (n : S32.Idx → BitVec 32) :
    (held d L (list k) n : sProp 𝕄) = bigSep Finset.univ fun p : Fin 6 => (list k).view.loc (thr d L) ↦[(list k).view.set]{sixth p} n :=
  pointsTo_piecesOf _ _ (by decide) fullShare

omit [FloatOps F] in
/-- A chunk's eight row numbers are named once each. -/
theorem entry_bijective : Function.Bijective fun j : Fin 8 => entry (si := S8) (o := 8) rfl j :=
  S8.rowMajor.symm.bijective.comp (finCongr rfl).bijective

omit [FloatOps F] in
/-- A window's eight rows landed are the window, and its sixth of the list's part. -/
theorem landed_win (k : Fin 4) (p : Fin 6) (g : S32x768.Idx → Elt F .f32) (n : S32.Idx → BitVec 32) :
    (bigSep Finset.univ fun j => landedRow d L g n k p j)
      = iprop(held d L (win k p) g ∗ ((list k).view.loc (thr d L) ↦[(list k).view.set]{sixth p} n)) := by
  have h1 := pointsTo_rows (Val := Elt F) (Ix := HIx 1) (Name := ℕ) (U := UU) (Lvl := ℕ) (thr d L) (win k p).view
    gathers_S204800x128_S8x128.axis' fullShare g
  have h2 := pointsTo_entries (Val := Elt F) (Ix := HIx 1) (Name := ℕ) (U := UU) (Lvl := ℕ) (thr d L) (list k).view
    (fun j : Fin 8 => entry (si := S8) (o := 8) rfl j) entry_bijective (sixth p) n
  unfold held
  rw [h1, h2]
  exact bigSep_sep' _ _ _

omit [FloatOps F] in
/-- A chunk's 48 rows landed are the chunk and its part of the list. -/
theorem landed_all (k : Fin 4) (g : S32x768.Idx → Elt F .f32) (n : S32.Idx → BitVec 32) :
    bigSep Finset.univ (landed d L g n k) = iprop(held d L (chunk k) g ∗ held d L (list k) n) := by
  rw [bigSep_univ_equiv (finProdFinEquiv (m := 6) (n := 8)), bigSep_univ_prod, chunk_wins, list_sixths, ← bigSep_sep']
  refine bigSep_congr fun p _ => Eq.trans (bigSep_congr fun j _ => ?_) (landed_win d L k p g n)
  unfold landed; rw [Equiv.symm_apply_apply]

end Cert.Proof.Rows

end
-- ==== Proof.Chunks.lean ====
/-
  The task's chunks: starting one chunk's six gathers, waiting for them and sending the chunk out, and waiting for a
  send. What the sends leave is the result's rows: `wanted`, the rows of the table at the numbers the token indexes make.
-/
module

public import proofs.«01_k».proof.Proof.Steps

@[expose] public section

noncomputable section

namespace Cert.Proof.Rows

open Cert.KernelIdeal Cert.KernelIdeal.Gen
open Cert.Proof.GatherBatch
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The result -/

/-- The first of a task's 32 rows. -/
def base (L : grid0.Coords) : ℕ := 64 * (L 1).val + 32 * (L 0).val

/-- A task's 32 sequences are among the 1024. -/
theorem base_le (L : grid0.Coords) : base L + 32 ≤ 1024 := by
  have h0 : (L 0).val < 2 := (L 0).isLt
  have h1 : (L 1).val < 16 := (L 1).isLt
  unfold base; omega

/-- A task's row `x`, among all. -/
def rowOf (L : grid0.Coords) (x : Fin 32) : Fin 1024 := ⟨base L + x.val, by have := base_le L; omega⟩

/-- The result: row `y` is the table's row `200 y + ix y`. -/
def wanted (t : S204800x768.Idx → Elt F .f32) (ix : S1024.Idx → BitVec 32) : S1024x768.Idx → Elt F .f32 :=
  fun y => t (at2 ⟨(200 * (y 0).val + (ix (at1 (y 0))).toNat) % 204800, Nat.mod_lt _ (by decide)⟩ (y 1))

/-- The row numbers a task works out from the token indexes. -/
def numbers (L : grid0.Coords) (ix : S1024.Idx → BitVec 32) : S32.Idx → BitVec 32 :=
  fun x => ix (at1 (rowOf L (x 0))) + BitVec.ofNat 32 (200 * (base L + (x 0).val))

/-- A row number as a natural number: 200 times the sequence plus its token index, nothing wrapped. -/
theorem numbers_toNat (L : grid0.Coords) {ix : S1024.Idx → BitVec 32} (hix : ∀ y, (ix y).toNat < 200) (x : S32.Idx) :
    (numbers L ix x).toNat = 200 * (base L + (x 0).val) + (ix (at1 (rowOf L (x 0)))).toNat := by
  have hb := base_le L
  have hx : (x 0).val < 32 := (x 0).isLt
  have hi := hix (at1 (rowOf L (x 0)))
  unfold numbers
  rw [BitVec.toNat_add, BitVec.toNat_ofNat]
  omega

/-- It names a row of the table. -/
theorem numbers_lt (L : grid0.Coords) {ix : S1024.Idx → BitVec 32} (hix : ∀ y, (ix y).toNat < 200) (x : S32.Idx) :
    (numbers L ix x).toNat < 204800 := by
  have hb := base_le L
  have hx : (x 0).val < 32 := (x 0).isLt
  have hi := hix (at1 (rowOf L (x 0)))
  rw [numbers_toNat L hix]; omega

/-- What a task gathers are its rows of the result. -/
theorem gathered_numbers (L : grid0.Coords) (t : S204800x768.Idx → Elt F .f32) {ix : S1024.Idx → BitVec 32} (hix : ∀ y, (ix y).toNat < 200)
    (x : S32x768.Idx) : gathered t (numbers L ix) x = wanted t ix (at2 (rowOf L (x 0)) (x 1)) := by
  unfold gathered wanted
  refine congrArg t (congrArg (fun r => at2 r (x 1)) (Fin.ext ?_))
  show (numbers L ix (at1 (x 0))).toNat % 204800 = _
  rw [numbers_toNat L hix]; rfl

/-! ## The sends -/

variable (d : Dev nD) (L : grid0.Coords)

/-- What chunk `k`'s send leaves: the result's rows, and the chunk back. -/
def sent (g : S32x768.Idx → Elt F .f32) (w : S1024x768.Idx → Elt F .f32) (k : Fin 4) : sProp 𝕄 :=
  iprop(held d L (dest L k) w ∗ held d L (chunk k) g)

instance sent_storable (g : S32x768.Idx → Elt F .f32) (w : S1024x768.Idx → Elt F .f32) (k : Fin 4) :
    BI.Storable (upEmb : UEmb _ 𝕄) (sent d L g w k) := by
  unfold sent; infer_instance

/-- The sends in flight: `a` started, `u` units of credit waited for. -/
abbrev Sending (g : S32x768.Idx → Elt F .f32) (w : S1024x768.Idx → Elt F .f32) (a u : ℕ) : sProp 𝕄 :=
  Transfers.Batch EC (thr d L) (.dma ssem) ι₀ chunkCredit (sent d L g w) a u

variable {α : Type} {Q : α → sProp (MT nD τ sig (HIx 1) (Elt F) ℕ UU ℕ)}

omit [FloatOps F] in
/-- Where a chunk's element goes. -/
theorem dest_emb (k : Fin 4) (x : S8x768.Idx) :
    ((dest L k).view.emb x : S1024x768.Idx) = at2 (rowOf L (((chunk k).view.emb x : S32x768.Idx) 0)) (((chunk k).view.emb x : S32x768.Idx) 1) := by
  funext a
  have e := k0_off2_eq L k
  match a with
  | 0 =>
    refine Fin.ext ?_
    show k0_off2 L (BitVec.ofNat 32 (8 * k.val)) 0 + 1 * (x 0).val = base L + (8 * k.val + 1 * (x 0).val)
    rw [e]; show 64 * (L 1).val + 32 * (L 0).val + 8 * k.val + 1 * (x 0).val = _; unfold base; omega
  | 1 =>
    refine Fin.ext ?_
    show k0_off2 L (BitVec.ofNat 32 (8 * k.val)) 1 + 1 * (x 1).val = 0 + 1 * (x 1).val
    rw [e]; rfl

/-- Start sending chunk `k`. -/
theorem store_step (k : Fin 4) (g : S32x768.Idx → Elt F .f32) (w f : S1024x768.Idx → Elt F .f32)
    (hg : ∀ x, g x = w (at2 (rowOf L (x 0)) (x 1))) {a b : ℕ} (ha : k.val = a) (hb : a + 1 = b) (kk : PUnit → TaskProg F L α) :
    iprop(held d L (chunk k) g ∗ held d L (dest L k) f ∗ Sending d L g w a 0)
      ⊢ iprop((Sending d L g w b 0 -∗ wp frame (wpE (defs₀ (F := F)) 𝒱₀ (thr d L) none) Set.univ (kk ⟨⟩) Q)
          -∗ wp frame (wpE (defs₀ (F := F)) 𝒱₀ (thr d L) none) Set.univ
            ((Prog.lift (.enqueueDma (chunk k) (.here (dest L k)) (.dma ssem) (View.wordExact_bits rfl) (View.wordExact_bits rfl) ⟨Or.inl rfl, trivial⟩)
              : TaskProg F L PUnit) >>= kk) Q) := by
  subst ha hb
  refine Transfers.wp_dmaBatch EC 𝒱₀ (thr d L) none (src := chunk k) (dst := dest L k) ι₀ chunkCredit rfl subset_rfl k.isLt (Nat.zero_le _) ?_
  unfold sent
  iintro ⟨Hd, Hs⟩
  isplitl [Hd]
  · iapply (Entails.of_eq (pointsTo_congr ?_)) $$ Hd
    intro i hi
    obtain ⟨x, -, rfl⟩ := Finset.mem_map.1 hi
    rw [View.write_emb_of_mem _ _ (Finset.mem_univ _)]
    exact (hg _).trans (congrArg w (dest_emb L k x).symm)
  · iexact Hs

/-- Wait for one send's credit. -/
theorem settle_step (k : Fin 4) (g : S32x768.Idx → Elt F .f32) (w : S1024x768.Idx → Elt F .f32) {u v : ℕ} (hu : k.val * chunkCredit = u)
    (hv : (k.val + 1) * chunkCredit = v) {O : CellTallies nD τ sig (HIx 1)} {W : Waits sig (HIx 1)} (kk : PUnit → TaskProg F L α) :
    iprop(Sending d L g w 4 u ∗ Owed d L O W ∗ Transfers.MayWaits (thr d L) ι₀ O)
      ⊢ iprop((iprop(Sending d L g w 4 v ∗ Owed d L O W) -∗ wp frame (wpE (defs₀ (F := F)) 𝒱₀ (thr d L) none) Set.univ (kk ⟨⟩) Q)
          -∗ wp frame (wpE (defs₀ (F := F)) 𝒱₀ (thr d L) none) Set.univ (settle L k >>= kk) Q) := by
  unfold Owed
  iintro ⟨HB, ⟨%W', %hW, HO⟩, Hmw⟩ Hk
  iapply (Transfers.wp_waitBatchMulO EC 𝒱₀ (thr d L) none (dstw := dest L k) ι₀ 1 (show (dest L k).view.dmaCredit = 1 * chunkCredit from
      (Nat.one_mul _).symm)
    (show u + 1 * chunkCredit ≤ chunkCredit * 4 by
      subst hu; rw [← Nat.add_mul, Nat.mul_comm chunkCredit]; exact Nat.mul_le_mul_right _ (by omega))) $$ [HB HO Hmw]
  · isplitl [HB]; · iexact HB
    isplitl [HO]; · iexact HO
    iapply (Transfers.MayWaits.elim (SemLoc.dma ssem)) $$ Hmw
  iintro ⟨HB, HO⟩
  iapply Hk
  isplitl [HB]
  · rw [show v = u + 1 * chunkCredit by subst hu hv; rw [Nat.add_mul]]; iexact HB
  iexists _; isplitr
  swap; · iexact HO
  ipureintro; intro x hx
  rcases Finset.mem_insert.mp hx with hx | hx
  · exact .inr (hx ▸ rfl)
  · exact hW x hx

/-! ## A chunk's gathers -/

/-- The shares of the table the six gathers of a chunk read through. -/
abbrev lent (r : Fin 6 → PosShare TreeShare) (t : S204800x768.Idx → Elt F .f32) : sProp 𝕄 :=
  bigSep Finset.univ fun p : Fin 6 => (col p).view.loc (thr d L) ↦[(col p).view.set]{r p} t

omit [FloatOps F] in
/-- A six-fold conjunction written out. -/
theorem six (Φ : Fin 6 → sProp 𝕄) : bigSep Finset.univ Φ = iprop(Φ 0 ∗ Φ 1 ∗ Φ 2 ∗ Φ 3 ∗ Φ 4 ∗ Φ 5) := by
  rw [Idealize.SL.BI.bigSep_univ_eq_bigSepL [0, 1, 2, 3, 4, 5] (by decide) (by decide) Φ]; rfl

/-- Start chunk `k`'s six gathers. -/
theorem fetch_step (k : Fin 4) (r : Fin 6 → PosShare TreeShare) (t : S204800x768.Idx → Elt F .f32) (n : S32.Idx → BitVec 32)
    (fr : S32x768.Idx → Elt F .f32) (hn : ∀ x, (n x).toNat < 204800) (kk : PUnit → TaskProg F L α) :
    iprop(lent d L r t ∗ held d L (chunk k) fr ∗ held d L (list k) n ∗ semVal (thr d L, .dma (gsem k)) 0)
      ⊢ iprop((Fetching d L (gathered t n) n k 48 0 -∗ wp frame (wpE (defs₀ (F := F)) 𝒱₀ (thr d L) none) Set.univ (kk ⟨⟩) Q)
          -∗ wp frame (wpE (defs₀ (F := F)) 𝒱₀ (thr d L) none) Set.univ (fetch L k >>= kk) Q) := by
  unfold fetch lent
  simp only [bind_assoc]
  rw [chunk_wins, list_sixths, six, six, six]
  iintro ⟨⟨T0, T1, T2, T3, T4, T5⟩, ⟨R0, R1, R2, R3, R4, R5⟩, ⟨N0, N1, N2, N3, N4, N5⟩, Hv⟩ Hk
  imod (Transfers.batch_alloc' (Lvl := ℕ) EC (thr d L) ι₀ rowCredit (landed d L (gathered t n) n k) (sm := .dma (gsem k)) (E := Set.univ)) $$ Hv with HB
  iapply (gather_step d L k 0 t n fr hn (a := 0) (b := 8) rfl rfl) $$ [T0 R0 N0 HB]
  · isplitl [T0]; · iexact T0
    isplitl [R0]; · iexact R0
    isplitl [N0]; · iexact N0
    iexact HB
  iintro HB
  iapply (gather_step d L k 1 t n fr hn (a := 8) (b := 16) rfl rfl) $$ [T1 R1 N1 HB]
  · isplitl [T1]; · iexact T1
    isplitl [R1]; · iexact R1
    isplitl [N1]; · iexact N1
    iexact HB
  iintro HB
  iapply (gather_step d L k 2 t n fr hn (a := 16) (b := 24) rfl rfl) $$ [T2 R2 N2 HB]
  · isplitl [T2]; · iexact T2
    isplitl [R2]; · iexact R2
    isplitl [N2]; · iexact N2
    iexact HB
  iintro HB
  iapply (gather_step d L k 3 t n fr hn (a := 24) (b := 32) rfl rfl) $$ [T3 R3 N3 HB]
  · isplitl [T3]; · iexact T3
    isplitl [R3]; · iexact R3
    isplitl [N3]; · iexact N3
    iexact HB
  iintro HB
  iapply (gather_step d L k 4 t n fr hn (a := 32) (b := 40) rfl rfl) $$ [T4 R4 N4 HB]
  · isplitl [T4]; · iexact T4
    isplitl [R4]; · iexact R4
    isplitl [N4]; · iexact N4
    iexact HB
  iintro HB
  iapply (gather_step d L k 5 t n fr hn (a := 40) (b := 48) rfl rfl) $$ [T5 R5 N5 HB]
  · isplitl [T5]; · iexact T5
    isplitl [R5]; · iexact R5
    isplitl [N5]; · iexact N5
    iexact HB
  iexact Hk

end Cert.Proof.Rows

end
-- ==== Proof.Tile.lean ====
/-
  The task, run once at a symbolic tile.
-/
module

public import proofs.«01_k».proof.Proof.Chunks
public import Idealize.ShloMosaic.Lib.WritesUnit
public import Idealize.ShloMosaic.Lib.WordCmp

@[expose] public section

noncomputable section

namespace Cert.Proof.Rows

open Cert.KernelIdeal Cert.KernelIdeal.Gen
open Cert.Proof.GatherBatch
open Idealize.ShloMosaic
open Idealize.ShloMosaic.SparseCore
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable {α : Type} {Q : α → sProp (MT nD τ sig (HIx 1) (Elt F) ℕ UU ℕ)}

/-- Wait for chunk `k`'s gathers, and start sending the chunk. -/
theorem send_step (k : Fin 4) (g : S32x768.Idx → Elt F .f32) (n : S32.Idx → BitVec 32) (w f : S1024x768.Idx → Elt F .f32)
    (hg : ∀ x, g x = w (at2 (rowOf L (x 0)) (x 1))) {a b : ℕ} (ha : k.val = a) (hb : a + 1 = b)
    {O : CellTallies nD τ sig (HIx 1)} {W : Waits sig (HIx 1)} (kk : PUnit → TaskProg F L α) :
    iprop(Fetching d L g n k 48 0 ∗ held d L (dest L k) f ∗ Sending d L g w a 0 ∗ Owed d L O W ∗ Transfers.MayWaits (thr d L) ι₀ O)
      ⊢ iprop((iprop(held d L (list k) n ∗ semVal (thr d L, .dma (gsem k)) 0 ∗ Sending d L g w b 0 ∗ Owed d L O W)
            -∗ wp frame (wpE (defs₀ (F := F)) 𝒱₀ (thr d L) none) Set.univ (kk ⟨⟩) Q)
          -∗ wp frame (wpE (defs₀ (F := F)) 𝒱₀ (thr d L) none) Set.univ (send L k >>= kk) Q) := by
  unfold send
  simp only [bind_assoc]
  iintro ⟨HB, Hd, HS, HO, #Hmw⟩ Hk
  iapply (await_step d L k 0 g n (u := 0) (v := 8 * 1 * rowCredit) (Nat.zero_mul _) rfl) $$ [HB HO]
  · isplitl [HB]; · iexact HB
    isplitl [HO]; · iexact HO
    iexact Hmw
  iintro ⟨HB, HO⟩
  iapply (await_step d L k 1 g n (u := 8 * 1 * rowCredit) (v := 8 * 2 * rowCredit) rfl rfl) $$ [HB HO]
  · isplitl [HB]; · iexact HB
    isplitl [HO]; · iexact HO
    iexact Hmw
  iintro ⟨HB, HO⟩
  iapply (await_step d L k 2 g n (u := 8 * 2 * rowCredit) (v := 8 * 3 * rowCredit) rfl rfl) $$ [HB HO]
  · isplitl [HB]; · iexact HB
    isplitl [HO]; · iexact HO
    iexact Hmw
  iintro ⟨HB, HO⟩
  iapply (await_step d L k 3 g n (u := 8 * 3 * rowCredit) (v := 8 * 4 * rowCredit) rfl rfl) $$ [HB HO]
  · isplitl [HB]; · iexact HB
    isplitl [HO]; · iexact HO
    iexact Hmw
  iintro ⟨HB, HO⟩
  iapply (await_step d L k 4 g n (u := 8 * 4 * rowCredit) (v := 8 * 5 * rowCredit) rfl rfl) $$ [HB HO]
  · isplitl [HB]; · iexact HB
    isplitl [HO]; · iexact HO
    iexact Hmw
  iintro ⟨HB, HO⟩
  iapply (await_step d L k 5 g n (u := 8 * 5 * rowCredit) (v := rowCredit * 48) rfl (Nat.mul_comm _ _)) $$ [HB HO]
  · isplitl [HB]; · iexact HB
    isplitl [HO]; · iexact HO
    iexact Hmw
  iintro ⟨HB, HO⟩
  imod (Transfers.batch_collect' EC (thr d L) (sm := .dma (gsem k)) (ι := ι₀) (N := rowCredit) (by decide) (D := landed d L g n k)) $$ HB with ⟨HD, Hv⟩
  ihave HD' := (Entails.of_eq (landed_all d L k g n)) $$ HD
  icases HD' with ⟨Hc, Hl⟩
  iapply (store_step d L k g w f hg ha hb) $$ [Hc Hd HS]
  · isplitl [Hc]; · iexact Hc
    isplitl [Hd]; · iexact Hd
    iexact HS
  iintro HS
  iapply Hk
  isplitl [Hl]; · iexact Hl
  isplitl [Hv]; · iexact Hv
  isplitl [HS]; · iexact HS
  iexact HO

/-! ## The row numbers -/

/-- A lane of the first update: `200` times the lane's row is added. -/
theorem first_update (v : S16.Idx → BitVec 32) (x : S16.Idx) :
    k0_pay1 (F := F) L v x = v x + BitVec.ofNat 32 (200 * (base L + (x 0).val)) := by
  simp only [k0_pay1, shapeCast, Shape.reshapeEquiv_self, addi, muli, broadcast, WordCmp.iota_at]
  show v x + ((BitVec.ofNat 32 (L 1).val * BitVec.ofNat 32 2 + BitVec.ofNat 32 (L 0).val) * BitVec.ofNat 32 32 + BitVec.ofNat 32 0
      + BitVec.ofNat 32 (0 * 16 + (x 0).val)) * BitVec.ofNat 32 200 = _
  simp only [← BitVec.ofNat_mul, ← BitVec.ofNat_add]
  refine congrArg (fun n => v x + BitVec.ofNat 32 n) ?_
  unfold base; omega

/-- A lane of the second update: `200` times the lane's row, sixteen rows on, is added. -/
theorem second_update (v : S16.Idx → BitVec 32) (x : S16.Idx) :
    k0_pay2 (F := F) L v x = v x + BitVec.ofNat 32 (200 * (base L + (16 + (x 0).val))) := by
  simp only [k0_pay2, shapeCast, Shape.reshapeEquiv_self, addi, muli, broadcast, WordCmp.iota_at]
  show v x + ((BitVec.ofNat 32 (L 1).val * BitVec.ofNat 32 2 + BitVec.ofNat 32 (L 0).val) * BitVec.ofNat 32 32 + BitVec.ofNat 32 16
      + BitVec.ofNat 32 (0 * 16 + (x 0).val)) * BitVec.ofNat 32 200 = _
  simp only [← BitVec.ofNat_mul, ← BitVec.ofNat_add]
  refine congrArg (fun n => v x + BitVec.ofNat 32 n) ?_
  unfold base; omega

/-- The token indexes a task fetches. -/
theorem toks_read (ix : S1024.Idx → BitVec 32) (x : S32.Idx) : View.read (Elt F) (toks L).view ix x = ix (at1 (rowOf L (x 0))) := by
  refine congrArg ix (funext fun a => ?_)
  match a with
  | 0 => exact Fin.ext (by
      show k0_off1 L 0 + 1 * (x 0).val = base L + (x 0).val
      rw [k0_off1_eq, Nat.one_mul]; rfl)

/-- Sixteen entries loaded from a list just written over are entries of what was written. -/
theorem load_whole (f p : S32.Idx → BitVec 32) (o : ℕ) (inb : ∀ a, (![o] : Fin 1 → ℕ) a + S16.size a ≤ S32.size a) (x : S16.Idx) (y : Fin 32)
    (hy : y.val = o + (x 0).val) :
    View.readAt (Elt F) sV.view (Rect.unit (s := S32) ![o] S16.size inb).toLoadRect (View.write (Elt F) sV.view f p Finset.univ) x = p (at1 y) := by
  rw [View.readAt_apply, View.read_write_univ]
  refine congrArg p (funext fun a => ?_)
  match a with
  | 0 => exact Fin.ext (by
      show o + 1 * (x 0).val = y.val
      rw [Nat.one_mul, hy])

/-- The list after both updates. -/
theorem updates (f p : S32.Idx → BitVec 32) (ix : S1024.Idx → BitVec 32) (hp : ∀ x, p x = ix (at1 (rowOf L (x 0)))) (v u : S16.Idx → BitVec 32)
    (hu : ∀ x : S16.Idx, u x = p (at1 ⟨(x 0).val, by have : (x 0).val < 16 := (x 0).isLt; omega⟩))
    (hv : ∀ x : S16.Idx, v x = p (at1 ⟨16 + (x 0).val, by have : (x 0).val < 16 := (x 0).isLt; omega⟩)) :
    (sV.view.writes (Elt F) f
      [⟨Rect.unit ![16] S16.size inb_S32_S16_16, k0_pay2 (F := F) L v⟩,
       ⟨Rect.unit ![0] S16.size inb_S32_S16_0, k0_pay1 (F := F) L u⟩] : S32.Idx → BitVec 32) = numbers L ix := by
  refine funext fun y => ?_
  have hy : (y 0).val < 32 := (y 0).isLt
  refine (congrFun (View.read_whole cc0_scratch0 _).symm y).trans ?_
  by_cases h : (y 0).val < 16
  · refine (View.read_writes_cons_unit_of_not_mem (Val := Elt F) sV.view f inb_S32_S16_16 _ _ y rfl 0 (Or.inl h)).trans ?_
    refine (View.read_writes_cons_unit_of_mem (Val := Elt F) sV.view f inb_S32_S16_0 _ _ y (at1 (⟨(y 0).val, h⟩ : Fin 16)) rfl (fun a => ?_)).trans ?_
    · match a with
      | 0 => exact (Nat.zero_add _).symm
    rw [first_update, hu, hp]
    rfl
  · have h' : (y 0).val - 16 < 16 := by omega
    have e : 16 + ((y 0).val - 16) = (y 0).val := by omega
    refine (View.read_writes_cons_unit_of_mem (Val := Elt F) sV.view f inb_S32_S16_16 _ _ y (at1 (⟨(y 0).val - 16, h'⟩ : Fin 16)) rfl (fun a => ?_)).trans ?_
    · match a with
      | 0 => exact e.symm
    rw [second_update, hv, hp]
    show ix (at1 (rowOf L ⟨16 + ((y 0).val - 16), _⟩)) + BitVec.ofNat 32 (200 * (base L + (16 + ((y 0).val - 16)))) = _
    simp only [e]
    rfl

/-- Fetch the token indexes and make row numbers of them. -/
theorem prologue_step (ix : S1024.Idx → BitVec 32) (fs : S32.Idx → BitVec 32)
    {O : CellTallies nD τ sig (HIx 1)} {W : Waits sig (HIx 1)} (kk : PUnit → TaskProg F L α) :
    iprop(held d L (toks L) ix ∗ (sV.view.loc (thr d L) ↦{fullShare} fs) ∗ semVal (thr d L, .dma cc0_scoped0.sem) 0 ∗ Owed d L O W ∗ Transfers.MayWaits (thr d L) ι₀ O)
      ⊢ iprop((iprop(held d L (toks L) ix ∗ (sV.view.loc (thr d L) ↦{fullShare} numbers L ix) ∗ semVal (thr d L, .dma cc0_scoped0.sem) 0 ∗ Owed d L O W)
            -∗ wp frame (wpE (defs₀ (F := F)) 𝒱₀ (thr d L) none) Set.univ (kk ⟨⟩) Q)
          -∗ wp frame (wpE (defs₀ (F := F)) 𝒱₀ (thr d L) none) Set.univ (prologue L >>= kk) Q) := by
  unfold Owed prologue
  iintro ⟨Hi, Hs, Hv, ⟨%W', %hW, HO⟩, Hmw⟩ Hk
  sl_exec
  rw [updates (F := F) L _ (prologue_step.sl.dma0 (F := F) L ix) ix ?_ _ _ ?_ ?_]
  iapply Hk
  isplitl [Hi]; · iexact Hi
  isplitl [Hs]; · iexact Hs
  isplitl [Hv]; · iexact Hv
  iexists (insert (SemLoc.dma cc0_scoped0.sem, default) W')
  isplitr
  · ipureintro
    intro p hp
    rcases Finset.mem_insert.mp hp with rfl | hp
    · exact Or.inr rfl
    · exact hW p hp
  · iexact HO
  · unfold prologue_step.sl.dma0; exact toks_read L ix
  · intro x; exact load_whole _ _ 0 inb_S32_S16_0 x _ (Nat.zero_add _).symm
  · intro x; unfold prologue_step.sl.v17; exact load_whole _ _ 16 inb_S32_S16_16 x _ rfl

/-! ## The whole task -/

omit [FloatOps F] in
/-- A four-fold conjunction written out. -/
theorem four (Φ : Fin 4 → sProp 𝕄) : bigSep Finset.univ Φ = iprop(Φ 0 ∗ Φ 1 ∗ Φ 2 ∗ Φ 3) := by
  rw [Idealize.SL.BI.bigSep_univ_eq_bigSepL [0, 1, 2, 3] (by decide) (by decide) Φ]; rfl

/-- The table, as a location. -/
abbrev tLoc : Loc nD τ sig := tV.view.loc (thr d L)

/-- The part of a task's share of the table that block `p` of chunk `k` is gathered through. -/
abbrev part (q : PosShare TreeShare) (k : Fin 4) (p : Fin 6) : PosShare TreeShare := pieceOf (pieceOf q 4 (by decide) k) 6 (by decide) p

omit [FloatOps F] in
/-- A share of the table lends every gather of a task its column block. -/
theorem lend (q : PosShare TreeShare) (t : S204800x768.Idx → Elt F .f32) :
    (tLoc d L ↦{q} t : sProp 𝕄) ⊢ bigSep Finset.univ fun k : Fin 4 => lent d L (part q k) t := by
  have h4 := pointsTo_piecesOf (Ix := HIx 1) (Name := ℕ) (U := UU) (Lvl := ℕ) (ℓ := tLoc d L) Finset.univ t (o := 4) (by decide) q
  rw [h4]
  refine bigSep_mono fun k _ => ?_
  have h6 := pointsTo_piecesOf (Ix := HIx 1) (Name := ℕ) (U := UU) (Lvl := ℕ) (ℓ := tLoc d L) Finset.univ t (o := 6) (by decide)
    (pieceOf q 4 (by decide) k)
  rw [h6]
  refine bigSep_mono fun p _ => ?_
  exact (pointsTo_split_subset (ℓ := tLoc d L) (q := part q k p) (f := t) (S := Finset.univ) (Finset.subset_univ (col p).view.set)).1.trans sep_elim_left

/-- The task: it leaves its rows of the result at what is wanted there, its token indexes as they were, and both scratch
    buffers and every semaphore for whoever has them next. -/
theorem task_step (t : S204800x768.Idx → Elt F .f32) {ix : S1024.Idx → BitVec 32} (hix : ∀ y, (ix y).toNat < 200) (q : PosShare TreeShare)
    (f : S1024x768.Idx → Elt F .f32) (fs : S32.Idx → BitVec 32) (fr : S32x768.Idx → Elt F .f32)
    {O : CellTallies nD τ sig (HIx 1)} {W : Waits sig (HIx 1)} (kk : PUnit → TaskProg F L α) :
    iprop(held d L (toks L) ix ∗ (tLoc d L ↦{q} t) ∗ (bigSep Finset.univ fun k : Fin 4 => held d L (dest L k) f)
        ∗ (sLoc d L ↦{fullShare} fs) ∗ (rLoc d L ↦{fullShare} fr)
        ∗ (bigSep Finset.univ fun k : Fin 4 => semVal (thr d L, .dma (gsem k)) 0) ∗ semVal (thr d L, .dma ssem) 0
        ∗ semVal (thr d L, .dma cc0_scoped0.sem) 0 ∗ Owed d L O W ∗ Transfers.MayWaits (thr d L) ι₀ O)
      ⊢ iprop((iprop(held d L (toks L) ix ∗ (bigSep Finset.univ fun k : Fin 4 => held d L (dest L k) (wanted t ix))
            ∗ (sLoc d L ↦{fullShare} numbers L ix) ∗ (rLoc d L ↦{fullShare} gathered t (numbers L ix))
            ∗ (bigSep Finset.univ fun k : Fin 4 => semVal (thr d L, .dma (gsem k)) 0) ∗ semVal (thr d L, .dma ssem) 0
            ∗ semVal (thr d L, .dma cc0_scoped0.sem) 0 ∗ Owed d L O W)
            -∗ wp frame (wpE (defs₀ (F := F)) 𝒱₀ (thr d L) none) Set.univ (kk ⟨⟩) Q)
          -∗ wp frame (wpE (defs₀ (F := F)) 𝒱₀ (thr d L) none) Set.univ (task L >>= kk) Q) := by
  have hn := numbers_lt L hix
  have hg := gathered_numbers L t hix
  unfold task
  simp only [bind_assoc]
  rw [rows_chunks, rows_chunks, four, four, four, four, four]
  iintro ⟨Hi, Ht, Hd, Hs, Hr, Hgs, Hss, Hv, HO, #Hmw⟩ Hk
  iapply (prologue_step d L ix fs) $$ [Hi Hs Hv HO]
  · isplitl [Hi]; · iexact Hi
    isplitl [Hs]; · iexact Hs
    isplitl [Hv]; · iexact Hv
    isplitl [HO]; · iexact HO
    iexact Hmw
  iintro ⟨Hi, Hs, Hv, HO⟩
  ihave Ht' := ((lend d L q t).trans (Entails.of_eq (four _))) $$ Ht
  ihave Hs' := (Entails.of_eq ((list_parts d L (numbers L ix)).trans (four _))) $$ Hs
  icases Ht' with ⟨T0, T1, T2, T3⟩
  icases Hd with ⟨D0, D1, D2, D3⟩
  icases Hgs with ⟨G0, G1, G2, G3⟩
  icases Hs' with ⟨N0, N1, N2, N3⟩
  icases Hr with ⟨R0, R1, R2, R3⟩
  iapply (fetch_step d L 0 (part q 0) t (numbers L ix) fr hn) $$ [T0 R0 N0 G0]
  · isplitl [T0]; · iexact T0
    isplitl [R0]; · iexact R0
    isplitl [N0]; · iexact N0
    iexact G0
  iintro B0
  iapply (fetch_step d L 1 (part q 1) t (numbers L ix) fr hn) $$ [T1 R1 N1 G1]
  · isplitl [T1]; · iexact T1
    isplitl [R1]; · iexact R1
    isplitl [N1]; · iexact N1
    iexact G1
  iintro B1
  iapply (fetch_step d L 2 (part q 2) t (numbers L ix) fr hn) $$ [T2 R2 N2 G2]
  · isplitl [T2]; · iexact T2
    isplitl [R2]; · iexact R2
    isplitl [N2]; · iexact N2
    iexact G2
  iintro B2
  iapply (fetch_step d L 3 (part q 3) t (numbers L ix) fr hn) $$ [T3 R3 N3 G3]
  · isplitl [T3]; · iexact T3
    isplitl [R3]; · iexact R3
    isplitl [N3]; · iexact N3
    iexact G3
  iintro B3
  imod (Transfers.batch_alloc' (Lvl := ℕ) EC (thr d L) ι₀ chunkCredit (sent d L (gathered t (numbers L ix)) (wanted t ix)) (sm := .dma ssem)
    (E := Set.univ)) $$ Hss with HS
  iapply (send_step d L 0 (gathered t (numbers L ix)) (numbers L ix) (wanted t ix) f hg (a := 0) (b := 1) rfl rfl) $$ [B0 D0 HS HO]
  · isplitl [B0]; · iexact B0
    isplitl [D0]; · iexact D0
    isplitl [HS]; · iexact HS
    isplitl [HO]; · iexact HO
    iexact Hmw
  iintro ⟨N0, G0, HS, HO⟩
  iapply (send_step d L 1 (gathered t (numbers L ix)) (numbers L ix) (wanted t ix) f hg (a := 1) (b := 2) rfl rfl) $$ [B1 D1 HS HO]
  · isplitl [B1]; · iexact B1
    isplitl [D1]; · iexact D1
    isplitl [HS]; · iexact HS
    isplitl [HO]; · iexact HO
    iexact Hmw
  iintro ⟨N1, G1, HS, HO⟩
  iapply (send_step d L 2 (gathered t (numbers L ix)) (numbers L ix) (wanted t ix) f hg (a := 2) (b := 3) rfl rfl) $$ [B2 D2 HS HO]
  · isplitl [B2]; · iexact B2
    isplitl [D2]; · iexact D2
    isplitl [HS]; · iexact HS
    isplitl [HO]; · iexact HO
    iexact Hmw
  iintro ⟨N2, G2, HS, HO⟩
  iapply (send_step d L 3 (gathered t (numbers L ix)) (numbers L ix) (wanted t ix) f hg (a := 3) (b := 4) rfl rfl) $$ [B3 D3 HS HO]
  · isplitl [B3]; · iexact B3
    isplitl [D3]; · iexact D3
    isplitl [HS]; · iexact HS
    isplitl [HO]; · iexact HO
    iexact Hmw
  iintro ⟨N3, G3, HS, HO⟩
  iapply (settle_step d L 0 (gathered t (numbers L ix)) (wanted t ix) (u := 0) (v := 1 * chunkCredit) (Nat.zero_mul _) (rfl)) $$ [HS HO]
  · isplitl [HS]; · iexact HS
    isplitl [HO]; · iexact HO
    iexact Hmw
  iintro ⟨HS, HO⟩
  iapply (settle_step d L 1 (gathered t (numbers L ix)) (wanted t ix) (u := 1 * chunkCredit) (v := 2 * chunkCredit) (rfl) (rfl)) $$ [HS HO]
  · isplitl [HS]; · iexact HS
    isplitl [HO]; · iexact HO
    iexact Hmw
  iintro ⟨HS, HO⟩
  iapply (settle_step d L 2 (gathered t (numbers L ix)) (wanted t ix) (u := 2 * chunkCredit) (v := 3 * chunkCredit) (rfl) (rfl)) $$ [HS HO]
  · isplitl [HS]; · iexact HS
    isplitl [HO]; · iexact HO
    iexact Hmw
  iintro ⟨HS, HO⟩
  iapply (settle_step d L 3 (gathered t (numbers L ix)) (wanted t ix) (u := 3 * chunkCredit) (v := chunkCredit * 4) (rfl) (Nat.mul_comm _ _)) $$ [HS HO]
  · isplitl [HS]; · iexact HS
    isplitl [HO]; · iexact HO
    iexact Hmw
  iintro ⟨HS, HO⟩
  imod (Transfers.batch_collect' EC (thr d L) (sm := .dma ssem) (ι := ι₀) (N := chunkCredit) (by decide)
    (D := sent d L (gathered t (numbers L ix)) (wanted t ix))) $$ HS with ⟨HD, Hss⟩
  ihave HD' := (Entails.of_eq (four _)) $$ HD
  unfold sent
  icases HD' with ⟨⟨D0, R0⟩, ⟨D1, R1⟩, ⟨D2, R2⟩, ⟨D3, R3⟩⟩
  iapply Hk
  isplitl [Hi]; · iexact Hi
  isplitl [D0 D1 D2 D3]
  · isplitl [D0]; · iexact D0
    isplitl [D1]; · iexact D1
    isplitl [D2]; · iexact D2
    iexact D3
  isplitl [N0 N1 N2 N3]
  · iapply (Entails.of_eq ((list_parts d L (numbers L ix)).trans (four _)).symm)
    isplitl [N0]; · iexact N0
    isplitl [N1]; · iexact N1
    isplitl [N2]; · iexact N2
    iexact N3
  isplitl [R0 R1 R2 R3]
  · isplitl [R0]; · iexact R0
    isplitl [R1]; · iexact R1
    isplitl [R2]; · iexact R2
    iexact R3
  isplitl [G0 G1 G2 G3]
  · isplitl [G0]; · iexact G0
    isplitl [G1]; · iexact G1
    isplitl [G2]; · iexact G2
    iexact G3
  isplitl [Hss]; · iexact Hss
  isplitl [Hv]; · iexact Hv
  iexact HO

end Cert.Proof.Rows

end
-- ==== Proof.Launch.lean ====
/-
  The launch: the thirty-two tasks' blocks of the arrays, what each task is handed and hands back, and the task in the
  form the launch asks for. SparseCore `c`'s tile `i` has rows `64 i + 32 c` up to the next 32 of the token indexes and
  of the result, and a thirty-second share of the table.
-/
module

public import proofs.«01_k».proof.Proof.Tile

@[expose] public section

noncomputable section

namespace Cert.Proof.Rows

open Cert.KernelIdeal Cert.KernelIdeal.Gen
open Idealize.ShloMosaic
open Idealize.ShloMosaic.SparseCore
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The call runs on two SparseCores. -/
theorem nCore_zero : (K (F := F)).nCore 0 = 2 := rfl
/-- It runs on sixteen tiles of each. -/
theorem nSub_zero : (K (F := F)).nSub 0 = 16 := rfl

/-- What the launch theorem asks of the program's table of calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The tasks' blocks -/

/-- The task on tile `i` of SparseCore `c`. -/
def coords (c : Fin 2) (i : Fin 16) : grid0.Coords :=
  fun | 0 => c | 1 => i | ⟨_ + 2, h⟩ => absurd h (Nat.not_lt.2 (Nat.le_add_left _ _))

abbrev toksSet (x : Fin 2 × Fin 16) : Finset S1024.Idx := (toks (coords x.1 x.2)).view.set
abbrev destSet (x : Fin 2 × Fin 16 × Fin 4) : Finset S1024x768.Idx := (dest (coords x.1 x.2.1) x.2.2).view.set

/-- Which token indexes are task `(c, i)`'s. -/
theorem mem_toks (c : Fin 2) (i : Fin 16) (y : S1024.Idx) :
    y ∈ toksSet (c, i) ↔ 64 * i.val + 32 * c.val ≤ (y 0).val ∧ (y 0).val < 64 * i.val + 32 * c.val + 32 := by
  have e : k0_off1 (coords c i) 0 = 64 * i.val + 32 * c.val := by rw [k0_off1_eq]; rfl
  rw [show toksSet (c, i) = (Rect.unit (s := S1024) (k0_off1 (coords c i)) S32.size (k0_off1_inb (coords c i))).set from View.set_slice_whole _ _,
    Rect.mem_set_unit, Fin.forall_fin_one, e]
  exact Iff.rfl

/-- Which entries of the result are chunk `k` of task `(c, i)`. -/
theorem mem_dest (c : Fin 2) (i : Fin 16) (k : Fin 4) (y : S1024x768.Idx) :
    y ∈ destSet (c, i, k) ↔ 64 * i.val + 32 * c.val + 8 * k.val ≤ (y 0).val ∧ (y 0).val < 64 * i.val + 32 * c.val + 8 * k.val + 8 := by
  have e := k0_off2_eq (coords c i) k
  have e0 : k0_off2 (coords c i) (BitVec.ofNat 32 (8 * k.val)) 0 = 64 * i.val + 32 * c.val + 8 * k.val := by rw [e]; rfl
  have e1 : k0_off2 (coords c i) (BitVec.ofNat 32 (8 * k.val)) 1 = 0 := by rw [e]; rfl
  rw [show destSet (c, i, k) = (Rect.unit (s := S1024x768) (k0_off2 (coords c i) (BitVec.ofNat 32 (8 * k.val))) S8x768.size (k0_off2_inb (coords c i) k)).set
      from View.set_slice_whole _ _,
    Rect.mem_set_unit, Fin.forall_fin_two, e0, e1]
  exact ⟨fun h => h.1, fun h => ⟨h, Nat.zero_le _, (y 1).isLt⟩⟩

/-- Two tasks' token indexes are apart. -/
theorem toks_disjoint {x x' : Fin 2 × Fin 16} (h : x ≠ x') : Disjoint (toksSet x) (toksSet x') :=
  Finset.disjoint_left.2 fun y hy hy' => by
    obtain ⟨c, i⟩ := x
    obtain ⟨c', i'⟩ := x'
    have h1 := (mem_toks c i y).1 hy
    have h2 := (mem_toks c' i' y).1 hy'
    exact h (Prod.ext (Fin.ext (by show c.val = c'.val; omega)) (Fin.ext (by show i.val = i'.val; omega)))

/-- Two chunks' entries of the result are apart. -/
theorem dest_disjoint {x x' : Fin 2 × Fin 16 × Fin 4} (h : x ≠ x') : Disjoint (destSet x) (destSet x') :=
  Finset.disjoint_left.2 fun y hy hy' => by
    obtain ⟨c, i, k⟩ := x
    obtain ⟨c', i', k'⟩ := x'
    have h1 := (mem_dest c i k y).1 hy
    have h2 := (mem_dest c' i' k' y).1 hy'
    exact h (Prod.ext (Fin.ext (by show c.val = c'.val; omega)) (Prod.ext (Fin.ext (by show i.val = i'.val; omega))
      (Fin.ext (by show k.val = k'.val; omega))))

/-- The tasks' token indexes are all of them. -/
theorem toks_cover : (Finset.univ : Finset (Fin 2 × Fin 16)).biUnion toksSet = Finset.univ := by
  ext y
  rw [Finset.mem_biUnion]
  have hy : (y 0).val < 1024 := (y 0).isLt
  exact ⟨fun _ => Finset.mem_univ _, fun _ => ⟨(⟨(y 0).val / 32 % 2, by omega⟩, ⟨(y 0).val / 64, by omega⟩), Finset.mem_univ _,
    (mem_toks _ _ y).2 ⟨by show 64 * ((y 0).val / 64) + 32 * ((y 0).val / 32 % 2) ≤ _; omega, by
      show _ < 64 * ((y 0).val / 64) + 32 * ((y 0).val / 32 % 2) + 32; omega⟩⟩⟩

/-- The chunks' entries are all of the result. -/
theorem dest_cover : (Finset.univ : Finset (Fin 2 × Fin 16 × Fin 4)).biUnion destSet = Finset.univ := by
  ext y
  rw [Finset.mem_biUnion]
  have hy : (y 0).val < 1024 := (y 0).isLt
  exact ⟨fun _ => Finset.mem_univ _, fun _ => ⟨(⟨(y 0).val / 32 % 2, by omega⟩, ⟨(y 0).val / 64, by omega⟩, ⟨(y 0).val / 8 % 4, by omega⟩), Finset.mem_univ _,
    (mem_dest _ _ _ y).2 ⟨by show 64 * ((y 0).val / 64) + 32 * ((y 0).val / 32 % 2) + 8 * ((y 0).val / 8 % 4) ≤ _; omega, by
      show _ < 64 * ((y 0).val / 64) + 32 * ((y 0).val / 32 % 2) + 8 * ((y 0).val / 8 % 4) + 8; omega⟩⟩⟩

/-! ## The arrays, and their blocks held -/

abbrev xLoc (d : Dev nD) : Loc nD τ sig := (SparseCore.T d).loc main_arg0
abbrev iLoc (d : Dev nD) : Loc nD τ sig := (SparseCore.T d).loc main_arg1
abbrev fLoc (d : Dev nD) : Loc nD τ sig := (SparseCore.T d).loc main_v0
abbrev oLoc (d : Dev nD) : Loc nD τ sig := (SparseCore.T d).loc main_v1

/-- Task `(c, i)`'s share of the table. -/
abbrev share (c : Fin 2) (i : Fin 16) : PosShare TreeShare := pieceOf (pieceOf fullShare 2 (by decide) c) 16 (by decide) i

/-- The token indexes held are the tasks' blocks of them held. -/
theorem idx_blocks (d : Dev nD) (f : S1024.Idx → BitVec 32) :
    (iLoc d ↦{fullShare} f : sProp 𝕄)
      = bigSep Finset.univ fun c : Fin 2 => bigSep Finset.univ fun i : Fin 16 => held (F := F) d (coords c i) (toks (coords c i)) f := by
  have h := pointsTo_biUnion (Val := Elt F) (Ix := HIx 1) (Name := ℕ) (U := UU) (Lvl := ℕ) (ℓ := iLoc d) (q := fullShare) (f := f) Finset.univ
    toksSet fun x _ x' _ h => toks_disjoint h
  rw [toks_cover, bigSep_univ_prod] at h; exact h

/-- The result held is the tasks' blocks of it held, chunk by chunk. -/
theorem out_blocks (d : Dev nD) (f : S1024x768.Idx → Elt F .f32) :
    (oLoc d ↦{fullShare} f : sProp 𝕄)
      = bigSep Finset.univ fun c : Fin 2 => bigSep Finset.univ fun i : Fin 16 => bigSep Finset.univ fun k : Fin 4 =>
          held (F := F) d (coords c i) (dest (coords c i) k) f := by
  have h := pointsTo_biUnion (Val := Elt F) (Ix := HIx 1) (Name := ℕ) (U := UU) (Lvl := ℕ) (ℓ := oLoc d) (q := fullShare) (f := f) Finset.univ
    destSet fun x _ x' _ h => dest_disjoint h
  rw [dest_cover, bigSep_univ_prod] at h
  exact h.trans (bigSep_congr fun c _ => bigSep_univ_prod _)

/-- The table held is the tasks' shares of it held. -/
theorem table_shares (d : Dev nD) (t : S204800x768.Idx → Elt F .f32) :
    (fLoc d ↦{fullShare} t : sProp 𝕄)
      = bigSep Finset.univ fun c : Fin 2 => bigSep Finset.univ fun i : Fin 16 => (tLoc d (coords c i) ↦{share c i} t) := by
  have h2 := pointsTo_piecesOf (Ix := HIx 1) (Name := ℕ) (U := UU) (Lvl := ℕ) (ℓ := fLoc d) Finset.univ t (o := 2) (by decide) fullShare
  refine h2.trans (bigSep_congr fun c _ => ?_)
  exact pointsTo_piecesOf (Ix := HIx 1) (Name := ℕ) (U := UU) (Lvl := ℕ) (ℓ := fLoc d) Finset.univ t (o := 16) (by decide)
    (pieceOf fullShare 2 (by decide) c)

/-! ## What a task is handed and hands back -/

variable (m : (ℓ : Loc nD τ sig) → Buf (Elt F) ℓ) (ρ : Dev nD → PrngReg)

/-- The table: the features, their first two axes as one. -/
def table (d : Dev nD) : S204800x768.Idx → Elt F .f32 := shapeCast S204800x768 (m (xLoc d)) shapeCasts_S1024x200x768_S204800x768

/-- What the kernel leaves in the result. -/
def result (d : Dev nD) : S1024x768.Idx → Elt F .f32 := wanted (table m d) (m (iLoc d))

/-- What task `(c, i)` is handed: its token indexes, its share of the table, its rows of the result. -/
def given (d : Dev nD) (c : Fin 2) (i : Fin 16) : sProp 𝕄 :=
  iprop(held d (coords c i) (toks (coords c i)) (m (iLoc d)) ∗ (tLoc d (coords c i) ↦{share c i} table m d)
    ∗ bigSep Finset.univ fun k : Fin 4 => held d (coords c i) (dest (coords c i) k) (m (oLoc d)))

/-- What it hands back: its token indexes, and its rows of the result. -/
def handed (d : Dev nD) (c : Fin 2) (i : Fin 16) : sProp 𝕄 :=
  iprop(held d (coords c i) (toks (coords c i)) (m (iLoc d))
    ∗ bigSep Finset.univ fun k : Fin 4 => held d (coords c i) (dest (coords c i) k) (result m d))

instance given_storable (d : Dev nD) (c : Fin 2) (i : Fin 16) : BI.Storable (upEmb : UEmb _ 𝕄) (given m d c i) := by
  unfold given; infer_instance
instance handed_storable (d : Dev nD) (c : Fin 2) (i : Fin 16) : BI.Storable (upEmb : UEmb _ 𝕄) (handed m d c i) := by
  unfold handed; infer_instance

/-- The one call: each SparseCore takes what its tasks are handed and brings back what they hand back. -/
def P : (K (F := F)).Pay (nD := nD) (Val := Elt F) (Name := ℕ) (U := UU) where
  st := fun q d c => match q with | 0 => bigSep Finset.univ fun i : Fin 16 => given m d (Fin.cast nCore_zero c) i
  dn := fun q d c => match q with | 0 => bigSep Finset.univ fun i : Fin 16 => handed m d (Fin.cast nCore_zero c) i
  go := fun q d c i => match q with | 0 => given m d (Fin.cast nCore_zero c) (Fin.cast nSub_zero i)
  td := fun q d c i => match q with | 0 => handed m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => given m d (Fin.cast nCore_zero c) i))
  dn q d c := match q with
    | 0 => (inferInstance : BI.Storable (upEmb : UEmb _ 𝕄) (bigSep Finset.univ fun i : Fin 16 => handed m d (Fin.cast nCore_zero c) i))
  go q d c i := match q with
    | 0 => (inferInstance : BI.Storable (upEmb : UEmb _ 𝕄) (given m d (Fin.cast nCore_zero c) (Fin.cast nSub_zero i)))
  td q d c i := match q with
    | 0 => (inferInstance : BI.Storable (upEmb : UEmb _ 𝕄) (handed m d (Fin.cast nCore_zero c) (Fin.cast nSub_zero i)))

/-- What is asked of the launch memory: every token index is below 200. -/
def PreOK : Prop := ∀ (d : Dev nD) (y : S1024.Idx), BitVec.toNat (m (iLoc d) y) < 200

/-! ## A task's own buffers and semaphores -/

variable (d : Dev nD) (L : grid0.Coords)

/-- The six semaphores a task uses: the gathers', the sends', and its first fetch's. -/
def cell : Fin 6 → DmaSem sig := ![gsem 0, gsem 1, gsem 2, gsem 3, ssem, cc0_scoped0.sem]

/-- The six semaphores are distinct. -/
theorem cell_injective : Function.Injective cell := by decide

/-- Each belongs to the tile. -/
theorem cell_scoped (j : Fin 6) : (SemLoc.dma (cell j) : SemLoc sig).isScoped .scVector = true := by revert j; decide

/-- The six, as the task's thread has them. -/
def cellAt : Fin 6 ↪ GSem nD τ sig :=
  ⟨fun j => (thr d L, SemLoc.dma (cell j)), fun _ _ e => cell_injective (SemLoc.dma.inj (congrArg Prod.snd e))⟩

/-- What is left of a task's own semaphores once those six are taken out. -/
abbrev otherCells : Finset (GSem nD τ sig) := ownCells (thr d L) \ Finset.univ.map (cellAt d L)

/-- They are among the tile's own. -/
theorem cells_own : Finset.univ.map (cellAt d L) ⊆ ownCells (thr d L) := fun g hg => by
  obtain ⟨j, -, rfl⟩ := Finset.mem_map.1 hg
  exact mem_ownCells.mpr ⟨rfl, cell_scoped j⟩

/-- A task's own semaphores are those six and the others. -/
theorem ownSems0_V :
    (ownSems0 (thr d L) : sProp 𝕄)
      = iprop((semVal (thr d L, .dma (gsem 0)) 0 ∗ semVal (thr d L, .dma (gsem 1)) 0 ∗ semVal (thr d L, .dma (gsem 2)) 0
          ∗ semVal (thr d L, .dma (gsem 3)) 0 ∗ semVal (thr d L, .dma ssem) 0 ∗ semVal (thr d L, .dma cc0_scoped0.sem) 0)
          ∗ bigSep (otherCells d L) fun g => semVal g 0) := by
  unfold SparseCore.Cfg.ownSems0
  rw [SparseCore.bigSep_sdiff_split' (cells_own d L), BI.bigSep_map, six]
  rfl

/-- The two scratch buffers are among a tile's own: they are them, at some contents, and the rest. -/
theorem ownBufs_V :
    (ownBufs (thr d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task as the launch asks for it -/

/-- The task on tile `i` of SparseCore `c`, from what it is handed to what it hands back. -/
theorem tile_body (hF : (K (F := F)).Facts) (hpre : PreOK m) (c : Fin 2) (i : Fin 16) (O : CellTallies nD τ sig (HIx 1)) (W : Waits sig (HIx 1))
    (hO : ∀ g, O g none = 0) :
    iprop(levAts (K (F := F)).L (K (F := F)).lev ∗ emp ∗ given m d c i
        ∗ scopedBufs (thr d (coords c i)) ∗ scopedSems0 (thr d (coords c i)) ∗ owes (thr d (coords c i)) O W)
      ⊢ wp frame (wpE (defs₀ (F := F)) 𝒱₀ (thr d (coords c i)) none) Set.univ
          (cc0_k (coords c i) tV (Memref.isWhole_whole _) iV (Memref.isWhole_whole _) oV (Memref.isWhole_whole _)
            sV (Memref.isWhole_whole _) rV (Memref.isWhole_whole _) cc0_scratch2 cc0_scratch3 cc0_scoped0)
          fun _ => iprop(handed m d c i ∗ scopedBufs (thr d (coords c i)) ∗ scopedSems0 (thr d (coords c i))
            ∗ ∃ W', ⌜∀ p ∈ W', p ∈ W ∨ p.2 = none⌝ ∗ owes (thr d (coords c i)) O W') := by
  have e : task (F := F) (coords c i) = task (coords c i) >>= fun x => pure x := (bind_pure _).symm
  rw [task_eq, e, (K (F := F)).scopedBufs_V hF d (cV (coords c i)) (jV (coords c i)),
    SparseCore.Cfg.scopedSems0_V (Val := Elt F) d (cV (coords c i)) (jV (coords c i)), ownSems0_V, ownBufs_V]
  unfold given
  iintro ⟨#Hlv, -, ⟨Hi, Ht, Hd⟩, ⟨⟨%fs, Hs⟩, ⟨%fr, Hr⟩, Hbufs⟩, ⟨⟨G0, G1, G2, G3, Hss, Hv⟩, Hsems⟩, HO⟩
  ihave Hmw := (show levAts (K (F := F)).L (K (F := F)).lev ⊢ Transfers.MayWaits (thr d (coords c i)) ι₀ O from
    (K (F := F)).mayWaits_none (thr := thr d (coords c i)) hO) $$ Hlv
  iapply (task_step d (coords c i) (table m d) (hpre d) (share c i) (m (oLoc d)) fs fr (O := O) (W := W)) $$ [Hi Ht Hd Hs Hr G0 G1 G2 G3 Hss Hv HO Hmw]
  · isplitl [Hi]; · iexact Hi
    isplitl [Ht]; · iexact Ht
    isplitl [Hd]; · iexact Hd
    isplitl [Hs]; · iexact Hs
    isplitl [Hr]; · iexact Hr
    isplitl [G0 G1 G2 G3]
    · iapply (Entails.of_eq (four _).symm)
      isplitl [G0]; · iexact G0
      isplitl [G1]; · iexact G1
      isplitl [G2]; · iexact G2
      iexact G3
    isplitl [Hss]; · iexact Hss
    isplitl [Hv]; · iexact Hv
    isplitl [HO]
    · unfold Owed
      iexists W; isplitr
      · ipureintro; exact fun p hp => Or.inl hp
      · iexact HO
    iexact Hmw
  iintro ⟨Hi, Hd, Hs, Hr, HG, Hss, Hv, HO⟩
  ihave HG' := (Entails.of_eq (four _)) $$ HG
  icases HG' with ⟨G0, G1, G2, G3⟩
  rw [wp_pure]
  imodintro
  unfold handed result
  isplitl [Hi Hd]
  · isplitl [Hi]; · iexact Hi
    iexact Hd
  isplitl [Hs Hr Hbufs]
  · isplitl [Hs]; · iexists _; iexact Hs
    isplitl [Hr]; · iexists _; iexact Hr
    iexact Hbufs
  isplitl [G0 G1 G2 G3 Hss Hv Hsems]
  · isplitr [Hsems]
    · isplitl [G0]; · iexact G0
      isplitl [G1]; · iexact G1
      isplitl [G2]; · iexact G2
      isplitl [G3]; · iexact G3
      isplitl [Hss]; · iexact Hss
      iexact Hv
    · iexact Hsems
  unfold Owed
  iexact HO

end Cert.Proof.Rows

end
-- ==== Proof.Run.lean ====
/-
  The run: @main reshapes the features to the table and makes the one call; the launch theorem turns the tasks' work into
  what every execution ends with.
-/
module

public import proofs.«01_k».proof.Proof.Launch

@[expose] public section

noncomputable section

namespace Cert.Proof.Rows

open Cert.KernelIdeal Cert.KernelIdeal.Gen
open Idealize.ShloMosaic
open Idealize.ShloMosaic.SparseCore
open Idealize.ShloMosaic.SparseCore.Cfg
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The task's obligation -/

/-- What a tile runs is the kernel's body at its coordinates. -/
theorem defs₀_vector (c : Fin τ.nSC) (s : Fin τ.nSub) :
    defs₀ (F := F) (.scVector c s) 0 ()
      = SparseCore.onTile hcore0 hsub0 (fun c s => cc0_k (coords c s)
          tV (Memref.isWhole_whole _) iV (Memref.isWhole_whole _) oV (Memref.isWhole_whole _)
          sV (Memref.isWhole_whole _) rV (Memref.isWhole_whole _) cc0_scratch2 cc0_scratch3 cc0_scoped0) ⟨⟩ c s := rfl

/-- The waits a body adds are among those its obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's obligation: the body, from what it is handed to what it hands back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d hF hpre (Fin.cast nCore_zero c) (Fin.cast nSub_zero i) O W hO).trans (wp_mono frame _ _ fun _ => obl_post)

/-- A SparseCore's operands are its tasks', and its tasks' results are its own. -/
theorem vecSplit : (K (F := F)).VecSplit' (P m) 0 := by
  intro d c
  show (bigSep Finset.univ fun i : Fin 16 => given m d (Fin.cast nCore_zero c) i)
    ⊢ |={Set.univ}=> iprop((bigSep Finset.univ fun i : Fin 16 => given m d (Fin.cast nCore_zero c) i)
      ∗ ((bigSep Finset.univ fun i : Fin 16 => handed m d (Fin.cast nCore_zero c) i)
          -∗ (bigSep Finset.univ fun i : Fin 16 => handed m d (Fin.cast nCore_zero c) i)))
  iintro H; imodintro
  isplitl [H]; · iexact H
  iintro H; iexact H

/-! ## The launch element of the ghost state -/

def u₀ : UU := (initOf (K (F := F)).hsCells (K (F := F)).hsToks, 1)

/-- Nothing, any number of times, is nothing. -/
theorem emps {I : Type} (s : Finset I) : (bigSep s fun _ => iprop(emp)) = (iprop(emp) : sProp 𝕄) := bigSep_emp_const s

/-- The launch's ghost state: the handshakes' first state, and nothing for any tile's counters. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main -/

/-- The host's buffers, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (fLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The token indexes, the table and the result are what the SparseCores are handed. -/
theorem st0_eq (d : Dev nD) : (bigSep Finset.univ fun c : Fin ((K (F := F)).nCore 0) => (P m).st 0 d c)
    = iprop((iLoc d ↦{fullShare} m (iLoc d)) ∗ (fLoc d ↦{fullShare} table m d) ∗ (oLoc d ↦{fullShare} m (oLoc d))) := by
  rw [idx_blocks, table_shares, out_blocks, ← bigSep_sep', ← bigSep_sep']
  refine bigSep_congr fun c _ => ?_
  rw [← bigSep_sep', ← bigSep_sep']
  rfl

/-- What they hand back are the token indexes and the result. -/
theorem dn0_eq (d : Dev nD) : (bigSep Finset.univ fun c : Fin ((K (F := F)).nCore 0) => (P m).dn 0 d c)
    = iprop((iLoc d ↦{fullShare} m (iLoc d)) ∗ (oLoc d ↦{fullShare} result m d)) := by
  rw [idx_blocks, out_blocks, ← bigSep_sep']
  refine bigSep_congr fun c _ => ?_
  rw [← bigSep_sep']
  rfl

/-- What @main leaves: its arguments as they were, the result at the rows wanted. -/
abbrev FIN (d : Dev nD) : sProp 𝕄 :=
  iprop((xLoc d ↦{fullShare} m (xLoc d)) ∗ (iLoc d ↦{fullShare} m (iLoc d)) ∗ (oLoc d ↦{fullShare} result m d))

/-- The operation that makes the table of the features. -/
abbrev reshapeOp : HloOp τ sig (Elt F) := StableHlo.reshape main_arg0 main_v0 (rfl) shapeCasts_S1024x200x768_S204800x768

/-- The features and the table's buffer, before and after it. -/
theorem op_bufs (d : Dev nD) (V : Valuation τ sig (Elt F)) :
    (bigSep (reshapeOp (F := F)).bufs fun b => ((d, b) : Loc nD τ sig) ↦{fullShare} V b : sProp 𝕄)
      = iprop((xLoc d ↦{fullShare} V (Proc.devRef .tc main_arg0)) ∗ (fLoc d ↦{fullShare} V (Proc.devRef .tc main_v0))) := by
  rw [StableHlo.reshape_bufs, SparseCore.bigSep_insert' (by
    rw [Finset.mem_singleton]; exact StableHlo.devRef_ne_of_ne (by decide)), bigSep_singleton]

/-- What it leaves in them: the features as they were, and the table. -/
theorem op_result (d : Dev nD) :
    (bigSep (reshapeOp (F := F)).bufs fun b => ((d, b) : Loc nD τ sig) ↦{fullShare} (reshapeOp (F := F)).result (fun b => m (d, b)) b : sProp 𝕄)
      = iprop((xLoc d ↦{fullShare} m (xLoc d)) ∗ (fLoc d ↦{fullShare} table m d)) := by
  rw [op_bufs, StableHlo.reshape_result_ne _ _ _ _ _ _ _ (by decide), StableHlo.reshape_result]
  rfl

/-- @main on device `d`: the reshape, and the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Hf, Ho⟩, Hts, -⟩, -⟩
  iapply (wp_hlo 𝒱 (SparseCore.T d) none Set.univ (op := reshapeOp (F := F)) (q := fun _ => fullShare) (F := fun b => m (d, b)) (fun _ _ => rfl)) $$ [Hb Hx Hf]
  · isplitl [Hb]; · iexact Hb
    iapply (Entails.of_eq (op_bufs d fun b => m (d, b)).symm)
    isplitl [Hx]; · iexact Hx
    iexact Hf
  iintro ⟨Hb, Hxf⟩
  ihave Hxf' := (Entails.of_eq (op_result m d)) $$ Hxf
  icases Hxf' with ⟨Hx, Hf⟩
  rw [wp_ret]
  imodintro
  iapply ((K (F := F)).wp_run (D (F := F)) 𝒱 (EH := EH) (P := P m) κ d 0) $$ [Hst Hi Hx Hf Ho Hb Hts]
  isplitr; · iexact Hctx
  isplitl [Hst]; · iexact Hst
  isplitl [Hi Hf Ho]
  · rw [st0_eq]
    isplitl [Hi]; · iexact Hi
    isplitl [Hf]; · iexact Hf
    iexact Ho
  iintro ⟨Hst, Hdn⟩
  ihave Hdn' := (Entails.of_eq (dn0_eq m d)) $$ Hdn
  icases Hdn' with ⟨Hi, Ho⟩
  imodintro
  isplitl [Hst]; · iexact Hst
  isplitr [Hb Hts]
  · isplitl [Hx]; · iexact Hx
    isplitl [Hi]; · iexact Hi
    iexact Ho
  isplitl [Hb] <;> iassumption

/-- What device `d`'s memory holds at the end. -/
def fq (d : Dev nD) (s' : Phys nD τ sig (Elt F)) : Prop :=
  s'.mem.mem (xLoc d) = m (xLoc d) ∧ s'.mem.mem (iLoc d) = m (iLoc d) ∧ s'.mem.mem (oLoc d) = result m d

set_option maxRecDepth 16384 in
/-- What is held at the end says what the memory then holds. -/
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := result m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- What every execution ends with: the features and the token indexes as they were, the result at the rows wanted, every
    semaphore back at zero. -/
def QC : PUnit × MemSt nD τ sig (Elt F) → Prop := fun r =>
  (∀ c : Dev nD, r.2.mem (xLoc c) = m (xLoc c) ∧ r.2.mem (iLoc c) = m (iLoc c) ∧ r.2.mem (oLoc c) = result m c) ∧ r.2.sem = fun _ => 0

/-- Every weakly fair execution of the kernel, its token indexes below 200, ends, and ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.Reference.lean ====
/-
  The reference, and the precondition: the reference picks, for each sequence, the features at its token index; when every
  index is below 200 that is the row the kernel fetches from the table.
-/
module

public import proofs.«01_k».proof.Proof.Run
public import proofs.«01_k».proof.Proof.Gen.ReferenceIdeal.Run
public import proofs.«01_k».proof.Proof.Gen.Pre_in_range
public import Idealize.ShloMosaic.Lib.ReduceAll
public import Idealize.ShloMosaic.Lib.StableHlo.Predicate
public import Idealize.ShloMosaic.Lib.Pipeline.Value

@[expose] public section

noncomputable section

namespace Cert.Proof.Rows

open Idealize.ShloMosaic
open Idealize.ShloMosaic.StableHlo.Predicate

/-! ## The precondition -/

/-- The precondition, all ones, says that every token index is below 200. -/
theorem below_of_pre {F : FTy → Type} [FloatOps F] [Cert.Pre_in_range.Facts] (x : FVec F Cert.Pre_in_range.S1024x200x768 .f32)
    (ix : IVec Cert.Pre_in_range.S1024 32) (h : Cert.Pre_in_range.fn x ix = fun _ => 1#1) (y : Cert.Pre_in_range.S1024.Idx) :
    (ix y).toNat < 200 := by
  haveI : Subsingleton Cert.Pre_in_range.S_.Idx := ⟨fun a b => funext fun k => k.elim0⟩
  have e := Host.reduce_andi_all _ _ _ _ (fun k => k.elim0) (congrFun h _) y
  have both : ∀ p q : BitVec 1, IntOp.andi p q = 1#1 → p = 1#1 ∧ q = 1#1 := by decide
  obtain ⟨hge, hlt⟩ := both _ _ e
  change IntOp.cmpi .sge (ix y) 0#32 = 1#1 at hge
  change IntOp.cmpi .slt (ix y) 200#32 = 1#1 at hlt
  simp only [IntOp.cmpi, ofBool_eq_one_iff, BitVec.sle_eq_decide, BitVec.slt_eq_decide, decide_eq_true_eq,
    BitVec.toInt_eq_toNat_cond, BitVec.toNat_ofNat, Nat.reducePow, Nat.reduceMod] at hge hlt
  omega

/-! ## The reference's value -/

section Value

open Cert.ReferenceIdeal Cert.ReferenceIdeal.Gen

/-- The index `(a, b, c)` of a three-axis array. -/
def at3 {n m k : ℕ} (a : Fin n) (b : Fin m) (c : Fin k) : (⟨3, ![n, m, k]⟩ : Shape).Idx := fun | 0 => a | 1 => b | 2 => c

/-- A word that is not negative is left alone where a negative one would have the axis's length added. -/
theorem not_wrapped (v : S1024.Idx → BitVec 32) (n : BitVec 32) (y : S1024.Idx) (hv : (v y).toNat < 2 ^ 31) :
    select (cmpi .slt v (broadcastInDim S1024 ![] bcast_S_S1024 (constantI S_ 32 0#32)))
      (addi v (broadcastInDim S1024 ![] bcast_S_S1024 (constantI S_ 32 n))) v y = v y := by
  have hz : ¬ IntOp.cmpi .slt (v y) 0#32 = 1#1 := fun h => Nat.not_lt_zero _ ((slt_iff_toNat hv (by decide)).1 h)
  exact if_neg hz

/-- A start coordinate inside its axis is not moved by the clamp. -/
theorem clamped (w : BitVec 32) (k top : ℕ) (hw : w.toNat = k) (hk : k ≤ top) (ht : top < 2 ^ 31) : min w.toInt.toNat top = k := by
  rw [toInt_eq_toNat_of_lt (by omega), hw]; omega

/-- The gather at `y`: where the two start coordinates are `a < 1024` and `b < 200`, the operand at `(a, b, y 1)`. -/
theorem gather_at {α : Type} (x : S1024x200x768.Idx → α) (i : IVec S1024x2 32) (y : S1024x768.Idx) (a : Fin 1024) (b : Fin 200)
    (ha : (i (at2 (y 0) 0)).toNat = a.val) (hb : (i (at2 (y 0) 1)).toNat = b.val) :
    Host.gather gather_S1024x200x768_S1024x2_S1024x768_1_01_n_n_01_1_11768 x i y = x (at3 a b (y 1)) := by
  have e0 : (gather_S1024x200x768_S1024x2_S1024x768_1_01_n_n_01_1_11768).siIdx y ⟨0, by decide⟩ = at2 (y 0) 0 := by
    funext k; match k with | 0 => rfl | 1 => rfl
  have e1 : (gather_S1024x200x768_S1024x2_S1024x768_1_01_n_n_01_1_11768).siIdx y ⟨1, by decide⟩ = at2 (y 0) 1 := by
    funext k; match k with | 0 => rfl | 1 => rfl
  unfold Host.gather
  refine congrArg x (funext fun k => Fin.ext ?_)
  match k with
  | 0 =>
    change min (i ((gather_S1024x200x768_S1024x2_S1024x768_1_01_n_n_01_1_11768).siIdx y ⟨0, _⟩)).toInt.toNat 1023 + 0 + 0 = a.val
    exact clamped _ _ _ ((congrArg (fun z => (i z).toNat) e0).trans ha) (by omega) (by decide)
  | 1 =>
    change min (i ((gather_S1024x200x768_S1024x2_S1024x768_1_01_n_n_01_1_11768).siIdx y ⟨1, _⟩)).toInt.toNat 199 + 0 + 0 = b.val
    exact clamped _ _ _ ((congrArg (fun z => (i z).toNat) e1).trans hb) (by omega) (by decide)
  | 2 =>
    change 0 + 0 + (y 1).val = (y 1).val
    omega

/-- The two columns of start coordinates, side by side: the first column. -/
theorem columns_left (u v : S1024.Idx → BitVec 32) (p : Fin 1024) :
    concatenate S1024x2 1 [⟨S1024x1, broadcastInDim S1024x1 ![0] bcast_S1024_S1024x1_0 u⟩,
      ⟨S1024x1, broadcastInDim S1024x1 ![0] bcast_S1024_S1024x1_0 v⟩] concatenates_S1024x1_S1024x1_S1024x2_d1 (at2 p 0) = u (at1 p) := by
  refine (concatenate_pair_apply_left (t := S1024x2) (s₁ := S1024x1) (s₂ := S1024x1) _ _ _ _ _ rfl (at2 p 0) ?_).trans ?_
  · intro k; match k with | 0 => rfl | 1 => rfl
  · exact broadcastInDim_apply _ _ _ _ _ fun k => by match k with | 0 => rfl

/-- The second column. -/
theorem columns_right (u v : S1024.Idx → BitVec 32) (p : Fin 1024) :
    concatenate S1024x2 1 [⟨S1024x1, broadcastInDim S1024x1 ![0] bcast_S1024_S1024x1_0 u⟩,
      ⟨S1024x1, broadcastInDim S1024x1 ![0] bcast_S1024_S1024x1_0 v⟩] concatenates_S1024x1_S1024x1_S1024x2_d1 (at2 p 1) = v (at1 p) := by
  refine (concatenate_pair_apply_right (t := S1024x2) (s₁ := S1024x1) (s₂ := S1024x1) _ _ _ _ _ rfl rfl (at2 p 0) ?_ ?_).trans ?_
  · intro k hk
    match k, hk with
    | 0, _ => rfl
    | 1, hk => exact absurd rfl hk
  · rfl
  · exact broadcastInDim_apply _ _ _ _ _ fun k => by match k with | 0 => rfl

/-- The features' entry `(a, b, c)` is the table's entry `c` of row `200 a + b`. -/
theorem row_of_features {α : Type} (x : S1024x200x768.Idx → α) (a : Fin 1024) (b : Fin 200) (c : Fin 768) (r : Fin 204800)
    (hr : r.val = 200 * a.val + b.val) :
    shapeCast Cert.KernelIdeal.S204800x768 x Cert.KernelIdeal.Gen.shapeCasts_S1024x200x768_S204800x768 (at2 r c) = x (at3 a b c) := by
  refine shapeCast_apply _ _ _ _ ?_
  rw [Shape.rowMajor_val_three, Shape.rowMajor_val_two]
  change (a.val * 200 + b.val) * 768 + c.val = r.val * 768 + c.val
  rw [hr, Nat.mul_comm 200]

/-- The reference's result is the kernel's, at token indexes below 200. -/
theorem reference_value {F : FTy → Type} [FloatOps F] (x : S1024x200x768.Idx → Elt F .f32) (ix : S1024.Idx → BitVec 32)
    (h : ∀ y, (ix y).toNat < 200) :
    Host.gather gather_S1024x200x768_S1024x2_S1024x768_1_01_n_n_01_1_11768 x
      (concatenate S1024x2 1
        [⟨S1024x1, broadcastInDim S1024x1 ![0] bcast_S1024_S1024x1_0
          (select (cmpi .slt (iotaInDim S1024 32 0) (broadcastInDim S1024 ![] bcast_S_S1024 (constantI S_ 32 0#32)))
            (addi (iotaInDim S1024 32 0) (broadcastInDim S1024 ![] bcast_S_S1024 (constantI S_ 32 1024#32))) (iotaInDim S1024 32 0))⟩,
         ⟨S1024x1, broadcastInDim S1024x1 ![0] bcast_S1024_S1024x1_0
          (select (cmpi .slt ix (broadcastInDim S1024 ![] bcast_S_S1024 (constantI S_ 32 0#32)))
            (addi ix (broadcastInDim S1024 ![] bcast_S_S1024 (constantI S_ 32 200#32))) ix)⟩] concatenates_S1024x1_S1024x1_S1024x2_d1)
      = wanted (F := F) (shapeCast Cert.KernelIdeal.S204800x768 x Cert.KernelIdeal.Gen.shapeCasts_S1024x200x768_S204800x768) ix := by
  funext y
  have hp : (y 0).val < 1024 := (y 0).isLt
  have hi := h (at1 (y 0))
  have hn : (iotaInDim S1024 32 0 (at1 (y 0))).toNat = (y 0).val := by
    change (BitVec.ofNat 32 (y 0).val).toNat = _
    rw [BitVec.toNat_ofNat]; omega
  rw [gather_at _ _ _ (y 0) ⟨(ix (at1 (y 0))).toNat, hi⟩
    ((congrArg BitVec.toNat ((columns_left _ _ (y 0)).trans (not_wrapped _ _ _ (by rw [hn]; omega)))).trans hn)
    (congrArg BitVec.toNat ((columns_right _ _ (y 0)).trans (not_wrapped _ _ _ (by omega))))]
  refine (row_of_features x _ _ _ _ ?_).symm
  change (200 * (y 0).val + (ix (at1 (y 0))).toNat) % 204800 = _
  rw [Nat.mod_eq_of_lt (by omega)]

end Value

end Cert.Proof.Rows

end
-- ==== Proof.lean ====
/-
  The claims about the kernel that fetches, for each of 1024 sequences, the row of features at that sequence's token index:
  the frames of the kernel, of its reading over the extended reals and of the reference, and that the last two compute the
  same array when every token index is below 200. What an execution of the kernel ends with is Proof/Run.lean's `run_main`,
  for float values of any kind; what the reference computes, and what the precondition says, is Proof/Reference.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.Reference

@[expose] public section

noncomputable section

namespace Cert.Proof

open Idealize.ShloMosaic Idealize.SL.Sem
open Cert.Proof.Rows

/-- The kernel ends without fault, its arguments and every semaphore as they were. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun d y => below_of_pre _ _ (hpre d) y)

/-- So does its reading over the extended reals. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d y => below_of_pre _ _ (hpre d) y)

/-- So does the reference, whatever the token indexes: it is host operations one after another, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same at token indexes below 200. -/
theorem frame_reference_in_range : Cert.quiescent_ReferenceIdeal_pre_in_range := fun m ρ _ => frame_reference m ρ trivial

/-- Kernel and reference compute the same array: row `y` is the features of sequence `y` at its token index. -/
theorem same_value : Cert.algebraic_KernelIdeal_ReferenceIdeal := by
  intro m ρ m' ρ' hpre hagree
  have hok : PreOK (F := Ideal) m := fun d y => below_of_pre _ _ (hpre d) y
  refine ⟨fun c => result m c, ?_, ?_⟩
  · exact (θ_run Cert.KernelIdeal.defs _ _).mono (fun _ h c => ⟨(h.1 c).2.2, (h.1 c).1, (h.1 c).2.1⟩) (run_main (F := Ideal) m ρ hok)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact reference_value (F := Ideal) (m (xLoc c)) (m (iLoc c)) (hok c)

/-- The claims together, after the witnesses of the programs' stated facts. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, same_value⟩

end Cert.Proof

end
